-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S1x4x384x128x128 : Shape := ⟨5, ![1, 4, 384, 128, 128]⟩
abbrev S4x16x512x512 : Shape := ⟨4, ![4, 16, 512, 512]⟩
abbrev S_ : Shape := ⟨0, ![]⟩

class Facts : Prop where
  bcast_S_S4x16x512x512 : S_.BroadcastsInDim S4x16x512x512 (![] : Fin 0 → Fin S4x16x512x512.rank)
  reducesTo_S4x16x512x512_S_d0_1_2_3 : S4x16x512x512.ReducesTo [0, 1, 2, 3] S_
  h_S_ : 0 < S_.numel

variable [Facts]

def fn {F : FTy → Type} [FloatOps F] (main_arg0 : FVec F S1x4x384x128x128 .f32) (main_arg1 : FVec F S4x16x512x512 .f32) : IVec S_ 1 :=
  let main_cst : FVec F S_ .f32 := constant S_ .f32 0x00000000#32
  let main_v0 : FVec F S4x16x512x512 .f32 := broadcastInDim S4x16x512x512 ![] bcast_S_S4x16x512x512 main_cst
  let main_v1 : IVec S4x16x512x512 1 := cmpf .oge main_arg1 main_v0
  let main_c : IVec S_ 1 := constantI S_ 1 1#1
  let main_v2 : IVec S_ 1 := (fun x v => Host.reduce IntOp.andi x v reducesTo_S4x16x512x512_S_d0_1_2_3 h_S_) main_v1 main_c
  main_v2
-- ==== Kernel.lean ====
abbrev S1x4x384x128x128 : Shape := ⟨5, ![1, 4, 384, 128, 128]⟩
abbrev S4x16x512x512 : Shape := ⟨4, ![4, 16, 512, 512]⟩
abbrev S4x384x128x128 : Shape := ⟨4, ![4, 384, 128, 128]⟩
abbrev S4x384x16384 : Shape := ⟨3, ![4, 384, 16384]⟩
abbrev S4x16x384 : Shape := ⟨3, ![4, 16, 384]⟩
abbrev S1x16x128x512 : Shape := ⟨4, ![1, 16, 128, 512]⟩
abbrev S1x384x4096 : Shape := ⟨3, ![1, 384, 4096]⟩
abbrev S1x16x384 : Shape := ⟨3, ![1, 16, 384]⟩
abbrev S16x1 : Shape := ⟨2, ![16, 1]⟩
abbrev S16x384 : Shape := ⟨2, ![16, 384]⟩
abbrev S16x128x512 : Shape := ⟨3, ![16, 128, 512]⟩
abbrev S16x32x4x512 : Shape := ⟨4, ![16, 32, 4, 512]⟩
abbrev S16x32x1x512 : Shape := ⟨4, ![16, 32, 1, 512]⟩
abbrev S16x32x512 : Shape := ⟨3, ![16, 32, 512]⟩
abbrev S16x32x511 : Shape := ⟨3, ![16, 32, 511]⟩
abbrev S16x32x1 : Shape := ⟨3, ![16, 32, 1]⟩
abbrev S512x128 : Shape := ⟨2, ![512, 128]⟩
abbrev S512x512 : Shape := ⟨2, ![512, 512]⟩
abbrev S16x4096 : Shape := ⟨2, ![16, 4096]⟩
abbrev S384x4096 : Shape := ⟨2, ![384, 4096]⟩
abbrev S16 : Shape := ⟨1, ![16]⟩
abbrev S1x16x1 : Shape := ⟨3, ![1, 16, 1]⟩
abbrev S1 : Shape := ⟨1, ![1]⟩
abbrev S1x1x1 : Shape := ⟨3, ![1, 1, 1]⟩
abbrev S16x1x1 : Shape := ⟨3, ![16, 1, 1]⟩

abbrev nBuf : Space → Nat
  | .hbm => 5
  | .vmem => 9
  | .smem => 0
  | _ => 0

abbrev bufTy : (tb : Table) → Fin (tcTables nBuf tb) → BufTy
  | .hbm, ⟨0, _⟩ => ⟨S1x4x384x128x128, .f32⟩
  | .hbm, ⟨1, _⟩ => ⟨S4x16x512x512, .f32⟩
  | .hbm, ⟨2, _⟩ => ⟨S4x384x128x128, .f32⟩
  | .hbm, ⟨3, _⟩ => ⟨S4x384x16384, .f32⟩
  | .hbm, ⟨4, _⟩ => ⟨S4x16x384, .f32⟩
  | .local _ .vmem, ⟨0, _⟩ => ⟨S1x16x128x512, .f32⟩
  | .local _ .vmem, ⟨1, _⟩ => ⟨S1x16x128x512, .f32⟩
  | .local _ .vmem, ⟨2, _⟩ => ⟨S1x384x4096, .f32⟩
  | .local _ .vmem, ⟨3, _⟩ => ⟨S1x384x4096, .f32⟩
  | .local _ .vmem, ⟨4, _⟩ => ⟨S1x16x384, .f32⟩
  | .local _ .vmem, ⟨5, _⟩ => ⟨S1x16x384, .f32⟩
  | .local _ .vmem, ⟨6, _⟩ => ⟨S16x1, .f32⟩
  | .local _ .vmem, ⟨7, _⟩ => ⟨S16x1, .f32⟩
  | .local _ .vmem, ⟨8, _⟩ => ⟨S16x384, .f32⟩
  | _, _ => ⟨S1x4x384x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32_17 : BitVec 32 := 0#32
  let v54 : BitVec 1 := Scalar.cmpi .eq arg1 c0_i32_17
  let v55 : BitVec 32 := Scalar.extui v54
  let c0_i32_18 : BitVec 32 := 0#32
  let v56 : BitVec 1 := Scalar.cmpi .ne v55 c0_i32_18
  v56

def k0_cond2 (i : grid0.Coords) : BitVec 1 :=
  let arg1 : BitVec 32 := BitVec.ofNat 32 (i 1).val
  let c0_i32_19 : BitVec 32 := 0#32
  let v57 : BitVec 1 := Scalar.cmpi .ne arg1 c0_i32_19
  let v58 : BitVec 32 := Scalar.extui v57
  let c0_i32_20 : BitVec 32 := 0#32
  let v59 : BitVec 1 := Scalar.cmpi .ne v58 c0_i32_20
  v59

def k0_cond6 (i : grid0.Coords) : BitVec 1 :=
  let arg1 : BitVec 32 := BitVec.ofNat 32 (i 1).val
  let c3_i32 : BitVec 32 := 3#32
  let v68 : BitVec 1 := Scalar.cmpi .eq arg1 c3_i32
  let v69 : BitVec 32 := Scalar.extui v68
  let c0_i32_26 : BitVec 32 := 0#32
  let v70 : BitVec 1 := Scalar.cmpi .ne v69 c0_i32_26
  v70

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal.lean ====
abbrev S1x4x384x128x128 : Shape := ⟨5, ![1, 4, 384, 128, 128]⟩
abbrev S4x16x512x512 : Shape := ⟨4, ![4, 16, 512, 512]⟩
abbrev S4x384x128x128 : Shape := ⟨4, ![4, 384, 128, 128]⟩
abbrev S128 : Shape := ⟨1, ![128]⟩
abbrev S_ : Shape := ⟨0, ![]⟩
abbrev S512 : Shape := ⟨1, ![512]⟩
abbrev S1x128 : Shape := ⟨2, ![1, 128]⟩
abbrev S512x1 : Shape := ⟨2, ![512, 1]⟩
abbrev S512x128 : Shape := ⟨2, ![512, 128]⟩
abbrev S128x4x16x512 : Shape := ⟨4, ![128, 4, 16, 512]⟩
abbrev S128x4x16x128 : Shape := ⟨4, ![128, 4, 16, 128]⟩
abbrev S4x16x128x128 : Shape := ⟨4, ![4, 16, 128, 128]⟩
abbrev S4x384x16384 : Shape := ⟨3, ![4, 384, 16384]⟩
abbrev S4x16384x384 : Shape := ⟨3, ![4, 16384, 384]⟩
abbrev S4x16x16384 : Shape := ⟨3, ![4, 16, 16384]⟩
abbrev S4x16 : Shape := ⟨2, ![4, 16]⟩
abbrev S4x16x1 : Shape := ⟨3, ![4, 16, 1]⟩
abbrev S1x1x16384 : Shape := ⟨3, ![1, 1, 16384]⟩
abbrev S4x16x384 : Shape := ⟨3, ![4, 16, 384]⟩

abbrev nBuf : Space → Nat
  | .hbm => 166
  | .vmem => 0
  | .smem => 0
  | _ => 0

abbrev hbmTy0_0 (i : Nat) : BufTy := match i % 128 with
  | 0 => ⟨S1x4x384x128x128, .f32⟩
  | 1 => ⟨S4x16x512x512, .f32⟩
  | 2 => ⟨S4x384x128x128, .f32⟩
  | 3 => ⟨S128, .f32⟩
  | 4 => ⟨S_, .f32⟩
  | 5 => ⟨S128, .f32⟩
  | 6 => ⟨S128, .f32⟩
  | 7 => ⟨S_, .f32⟩
  | 8 => ⟨S128, .f32⟩
  | 9 => ⟨S128, .f32⟩
  | 10 => ⟨S_, .f32⟩
  | 11 => ⟨S128, .f32⟩
  | 12 => ⟨S128, .f32⟩
  | 13 => ⟨S_, .f32⟩
  | 14 => ⟨S128, .f32⟩
  | 15 => ⟨S128, .f32⟩
  | 16 => ⟨S512, .f32⟩
  | 17 => ⟨S1x128, .f32⟩
  | 18 => ⟨S512x1, .f32⟩
  | 19 => ⟨S512x128, .f32⟩
  | 20 => ⟨S512x128, .f32⟩
  | 21 => ⟨S512x128, .f32⟩
  | 22 => ⟨S512x128, .f32⟩
  | 23 => ⟨S_, .f32⟩
  | 24 => ⟨S512x128, .f32⟩
  | 25 => ⟨S512x128, .f32⟩
  | 26 => ⟨S512x128, .f32⟩
  | 27 => ⟨S_, .f32⟩
  | 28 => ⟨S512x128, .f32⟩
  | 29 => ⟨S512x128, .f32⟩
  | 30 => ⟨S_, .f32⟩
  | 31 => ⟨S512x128, .f32⟩
  | 32 => ⟨S512x128, .f32⟩
  | 33 => ⟨S_, .f32⟩
  | 34 => ⟨S128, .f32⟩
  | 35 => ⟨S1x128, .f32⟩
  | 36 => ⟨S1x128, .f32⟩
  | 37 => ⟨S_, .f32⟩
  | 38 => ⟨S1x128, .f32⟩
  | 39 => ⟨S1x128, .i1⟩
  | 40 => ⟨S_, .f32⟩
  | 41 => ⟨S1x128, .f32⟩
  | 42 => ⟨S1x128, .i1⟩
  | 43 => ⟨S_, .i32⟩
  | 44 => ⟨S_, .f32⟩
  | 45 => ⟨S1x128, .f32⟩
  | 46 => ⟨S1x128, .f32⟩
  | 47 => ⟨S512x128, .f32⟩
  | 48 => ⟨S512x128, .f32⟩
  | 49 => ⟨S_, .i32⟩
  | 50 => ⟨S_, .f32⟩
  | 51 => ⟨S512x128, .i1⟩
  | 52 => ⟨S512x128, .f32⟩
  | 53 => ⟨S512x128, .f32⟩
  | 54 => ⟨S_, .f32⟩
  | 55 => ⟨S128, .f32⟩
  | 56 => ⟨S128, .i1⟩
  | 57 => ⟨S_, .f32⟩
  | 58 => ⟨S128, .f32⟩
  | 59 => ⟨S128, .i1⟩
  | 60 => ⟨S128, .i1⟩
  | 61 => ⟨S1x128, .i1⟩
  | 62 => ⟨S_, .i32⟩
  | 63 => ⟨S_, .f32⟩
  | 64 => ⟨S512x128, .i1⟩
  | 65 => ⟨S512x128, .f32⟩
  | 66 => ⟨S512x128, .f32⟩
  | 67 => ⟨S128, .f32⟩
  | 68 => ⟨S_, .f32⟩
  | 69 => ⟨S128, .f32⟩
  | 70 => ⟨S128, .f32⟩
  | 71 => ⟨S_, .f32⟩
  | 72 => ⟨S128, .f32⟩
  | 73 => ⟨S128, .f32⟩
  | 74 => ⟨S_, .f32⟩
  | 75 => ⟨S128, .f32⟩
  | 76 => ⟨S128, .f32⟩
  | 77 => ⟨S_, .f32⟩
  | 78 => ⟨S128, .f32⟩
  | 79 => ⟨S128, .f32⟩
  | 80 => ⟨S512, .f32⟩
  | 81 => ⟨S1x128, .f32⟩
  | 82 => ⟨S512x1, .f32⟩
  | 83 => ⟨S512x128, .f32⟩
  | 84 => ⟨S512x128, .f32⟩
  | 85 => ⟨S512x128, .f32⟩
  | 86 => ⟨S512x128, .f32⟩
  | 87 => ⟨S_, .f32⟩
  | 88 => ⟨S512x128, .f32⟩
  | 89 => ⟨S512x128, .f32⟩
  | 90 => ⟨S512x128, .f32⟩
  | 91 => ⟨S_, .f32⟩
  | 92 => ⟨S512x128, .f32⟩
  | 93 => ⟨S512x128, .f32⟩
  | 94 => ⟨S_, .f32⟩
  | 95 => ⟨S512x128, .f32⟩
  | 96 => ⟨S512x128, .f32⟩
  | 97 => ⟨S_, .f32⟩
  | 98 => ⟨S128, .f32⟩
  | 99 => ⟨S1x128, .f32⟩
  | 100 => ⟨S1x128, .f32⟩
  | 101 => ⟨S_, .f32⟩
  | 102 => ⟨S1x128, .f32⟩
  | 103 => ⟨S1x128, .i1⟩
  | 104 => ⟨S_, .f32⟩
  | 105 => ⟨S1x128, .f32⟩
  | 106 => ⟨S1x128, .i1⟩
  | 107 => ⟨S_, .i32⟩
  | 108 => ⟨S_, .f32⟩
  | 109 => ⟨S1x128, .f32⟩
  | 110 => ⟨S1x128, .f32⟩
  | 111 => ⟨S512x128, .f32⟩
  | 112 => ⟨S512x128, .f32⟩
  | 113 => ⟨S_, .i32⟩
  | 114 => ⟨S_, .f32⟩
  | 115 => ⟨S512x128, .i1⟩
  | 116 => ⟨S512x128, .f32⟩
  | 117 => ⟨S512x128, .f32⟩
  | 118 => ⟨S_, .f32⟩
  | 119 => ⟨S128, .f32⟩
  | 120 => ⟨S128, .i1⟩
  | 121 => ⟨S_, .f32⟩
  | 122 => ⟨S128, .f32⟩
  | 123 => ⟨S128, .i1⟩
  | 124 => ⟨S128, .i1⟩
  | 125 => ⟨S1x128, .i1⟩
  | 126 => ⟨S_, .i32⟩
  | 127 => ⟨S_, .f32⟩
  | _ => ⟨S1x4x384x128x128, .f32⟩

abbrev hbmTy0_1 (i : Nat) : BufTy := match i % 128 with
  | 0 => ⟨S512x128, .i1⟩
  | 1 => ⟨S512x128, .f32⟩
  | 2 => ⟨S512x128, .f32⟩
  | 3 => ⟨S128x4x16x512, .f32⟩
  | 4 => ⟨S128x4x16x128, .f32⟩
  | 5 => ⟨S4x16x128x128, .f32⟩
  | 6 => ⟨S4x384x16384, .f32⟩
  | 7 => ⟨S4x16384x384, .f32⟩
  | 8 => ⟨S4x16x16384, .f32⟩
  | 9 => ⟨S_, .f32⟩
  | 10 => ⟨S4x16x16384, .f32⟩
  | 11 => ⟨S4x16x16384, .i1⟩
  | 12 => ⟨S4x16x16384, .f32⟩
  | 13 => ⟨S_, .f32⟩
  | 14 => ⟨S4x16, .f32⟩
  | 15 => ⟨S4x16x16384, .i32⟩
  | 16 => ⟨S_, .f32⟩
  | 17 => ⟨S_, .i32⟩
  | 18 => ⟨S4x16, .f32⟩
  | 19 => ⟨S4x16, .i32⟩
  | 20 => ⟨S4x16x1, .i32⟩
  | 21 => ⟨S1x1x16384, .i32⟩
  | 22 => ⟨S4x16x16384, .i32⟩
  | 23 => ⟨S4x16x16384, .i32⟩
  | 24 => ⟨S4x16x16384, .i1⟩
  | 25 => ⟨S4x16x16384, .f32⟩
  | 26 => ⟨S_, .f32⟩
  | 27 => ⟨S4x16, .f32⟩
  | 28 => ⟨S4x16, .i1⟩
  | 29 => ⟨S4x16x1, .i1⟩
  | 30 => ⟨S4x16x16384, .i1⟩
  | 31 => ⟨S4x16x16384, .f32⟩
  | 32 => ⟨S_, .f32⟩
  | 33 => ⟨S4x16, .f32⟩
  | 34 => ⟨S4x16x384, .f32⟩
  | 35 => ⟨S4x16x1, .f32⟩
  | 36 => ⟨S4x16x384, .f32⟩
  | 37 => ⟨S4x16x384, .f32⟩
  | _ => ⟨S1x4x384x128x128, .f32⟩

abbrev hbmTy (i : Nat) : BufTy := match i / 128 with
  | 0 => hbmTy0_0 i
  | 1 => hbmTy0_1 i
  | _ => ⟨S1x4x384x128x128, .f32⟩

abbrev bufTy : (tb : Table) → Fin (tcTables nBuf tb) → BufTy
  | .hbm, ⟨i, _⟩ => hbmTy i
  | _, _ => ⟨S1x4x384x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_call0_cst_0 : Ref sig .tc := ⟨.hbm, 7, rfl⟩
abbrev main_call0_v3 : Ref sig .tc := ⟨.hbm, 8, rfl⟩
abbrev main_call0_v4 : Ref sig .tc := ⟨.hbm, 9, rfl⟩
abbrev main_call0_cst_1 : Ref sig .tc := ⟨.hbm, 10, rfl⟩
abbrev main_call0_v5 : Ref sig .tc := ⟨.hbm, 11, rfl⟩
abbrev main_call0_v6 : Ref sig .tc := ⟨.hbm, 12, rfl⟩
abbrev main_call0_cst_2 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_cst_3 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_cst_4 : Ref sig .tc := ⟨.hbm, 27, rfl⟩
abbrev main_call0_v19 : Ref sig .tc := ⟨.hbm, 28, rfl⟩
abbrev main_call0_v20 : Ref sig .tc := ⟨.hbm, 29, rfl⟩
abbrev main_call0_cst_5 : Ref sig .tc := ⟨.hbm, 30, rfl⟩
abbrev main_call0_v21 : Ref sig .tc := ⟨.hbm, 31, rfl⟩
abbrev main_call0_v22 : Ref sig .tc := ⟨.hbm, 32, rfl⟩
abbrev main_call0_cst_6 : Ref sig .tc := ⟨.hbm, 33, rfl⟩
abbrev main_call0_v23 : Ref sig .tc := ⟨.hbm, 34, rfl⟩
abbrev main_call0_v24 : Ref sig .tc := ⟨.hbm, 35, rfl⟩
abbrev main_call0_v25 : Ref sig .tc := ⟨.hbm, 36, rfl⟩
abbrev main_call0_cst_7 : Ref sig .tc := ⟨.hbm, 37, rfl⟩
abbrev main_call0_v26 : Ref sig .tc := ⟨.hbm, 38, rfl⟩
abbrev main_call0_v27 : Ref sig .tc := ⟨.hbm, 39, rfl⟩
abbrev main_call0_cst_8 : Ref sig .tc := ⟨.hbm, 40, rfl⟩
abbrev main_call0_v28 : Ref sig .tc := ⟨.hbm, 41, rfl⟩
abbrev main_call0_v29 : Ref sig .tc := ⟨.hbm, 42, rfl⟩
abbrev main_call0_c : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_v30 : Ref sig .tc := ⟨.hbm, 46, rfl⟩
abbrev main_call0_v31 : Ref sig .tc := ⟨.hbm, 47, rfl⟩
abbrev main_call0_v32 : Ref sig .tc := ⟨.hbm, 48, rfl⟩
abbrev main_call0_c_9 : Ref sig .tc := ⟨.hbm, 49, rfl⟩
abbrev main_call0_call1_v0 : Ref sig .tc := ⟨.hbm, 50, rfl⟩
abbrev main_call0_call1_v1 : Ref sig .tc := ⟨.hbm, 51, rfl⟩
abbrev main_call0_call1_v2 : Ref sig .tc := ⟨.hbm, 52, rfl⟩
abbrev main_call0_v33 : Ref sig .tc := ⟨.hbm, 53, rfl⟩
abbrev main_call0_cst_10 : Ref sig .tc := ⟨.hbm, 54, rfl⟩
abbrev main_call0_v34 : Ref sig .tc := ⟨.hbm, 55, rfl⟩
abbrev main_call0_v35 : Ref sig .tc := ⟨.hbm, 56, rfl⟩
abbrev main_call0_cst_11 : Ref sig .tc := ⟨.hbm, 57, rfl⟩
abbrev main_call0_v36 : Ref sig .tc := ⟨.hbm, 58, rfl⟩
abbrev main_call0_v37 : Ref sig .tc := ⟨.hbm, 59, rfl⟩
abbrev main_call0_v38 : Ref sig .tc := ⟨.hbm, 60, rfl⟩
abbrev main_call0_v39 : Ref sig .tc := ⟨.hbm, 61, rfl⟩
abbrev main_call0_c_12 : Ref sig .tc := ⟨.hbm, 62, rfl⟩
abbrev main_call0_call2_v0 : Ref sig .tc := ⟨.hbm, 63, rfl⟩
abbrev main_call0_call2_v1 : Ref sig .tc := ⟨.hbm, 64, rfl⟩
abbrev main_call0_call2_v2 : Ref sig .tc := ⟨.hbm, 65, rfl⟩
abbrev main_call0_v40 : Ref sig .tc := ⟨.hbm, 66, rfl⟩
abbrev main_call0_v41 : Ref sig .tc := ⟨.hbm, 67, rfl⟩
abbrev main_call0_cst_13 : Ref sig .tc := ⟨.hbm, 68, rfl⟩
abbrev main_call0_v42 : Ref sig .tc := ⟨.hbm, 69, rfl⟩
abbrev main_call0_v43 : Ref sig .tc := ⟨.hbm, 70, rfl⟩
abbrev main_call0_cst_14 : Ref sig .tc := ⟨.hbm, 71, rfl⟩
abbrev main_call0_v44 : Ref sig .tc := ⟨.hbm, 72, rfl⟩
abbrev main_call0_v45 : Ref sig .tc := ⟨.hbm, 73, rfl⟩
abbrev main_call0_cst_15 : Ref sig .tc := ⟨.hbm, 74, rfl⟩
abbrev main_call0_v46 : Ref sig .tc := ⟨.hbm, 75, rfl⟩
abbrev main_call0_v47 : Ref sig .tc := ⟨.hbm, 76, rfl⟩
abbrev main_call0_cst_16 : Ref sig .tc := ⟨.hbm, 77, rfl⟩
abbrev main_call0_v48 : Ref sig .tc := ⟨.hbm, 78, rfl⟩
abbrev main_call0_v49 : Ref sig .tc := ⟨.hbm, 79, rfl⟩
abbrev main_call0_v50 : Ref sig .tc := ⟨.hbm, 80, rfl⟩
abbrev main_call0_v51 : Ref sig .tc := ⟨.hbm, 81, rfl⟩
abbrev main_call0_v52 : Ref sig .tc := ⟨.hbm, 82, rfl⟩
abbrev main_call0_v53 : Ref sig .tc := ⟨.hbm, 83, rfl⟩
abbrev main_call0_v54 : Ref sig .tc := ⟨.hbm, 84, rfl⟩
abbrev main_call0_v55 : Ref sig .tc := ⟨.hbm, 85, rfl⟩
abbrev main_call0_v56 : Ref sig .tc := ⟨.hbm, 86, rfl⟩
abbrev main_call0_cst_17 : Ref sig .tc := ⟨.hbm, 87, rfl⟩
abbrev main_call0_v57 : Ref sig .tc := ⟨.hbm, 88, rfl⟩
abbrev main_call0_v58 : Ref sig .tc := ⟨.hbm, 89, rfl⟩
abbrev main_call0_v59 : Ref sig .tc := ⟨.hbm, 90, rfl⟩
abbrev main_call0_cst_18 : Ref sig .tc := ⟨.hbm, 91, rfl⟩
abbrev main_call0_v60 : Ref sig .tc := ⟨.hbm, 92, rfl⟩
abbrev main_call0_v61 : Ref sig .tc := ⟨.hbm, 93, rfl⟩
abbrev main_call0_cst_19 : Ref sig .tc := ⟨.hbm, 94, rfl⟩
abbrev main_call0_v62 : Ref sig .tc := ⟨.hbm, 95, rfl⟩
abbrev main_call0_v63 : Ref sig .tc := ⟨.hbm, 96, rfl⟩
abbrev main_call0_cst_20 : Ref sig .tc := ⟨.hbm, 97, rfl⟩
abbrev main_call0_v64 : Ref sig .tc := ⟨.hbm, 98, rfl⟩
abbrev main_call0_v65 : Ref sig .tc := ⟨.hbm, 99, rfl⟩
abbrev main_call0_v66 : Ref sig .tc := ⟨.hbm, 100, rfl⟩
abbrev main_call0_cst_21 : Ref sig .tc := ⟨.hbm, 101, rfl⟩
abbrev main_call0_v67 : Ref sig .tc := ⟨.hbm, 102, rfl⟩
abbrev main_call0_v68 : Ref sig .tc := ⟨.hbm, 103, rfl⟩
abbrev main_call0_cst_22 : Ref sig .tc := ⟨.hbm, 104, rfl⟩
abbrev main_call0_v69 : Ref sig .tc := ⟨.hbm, 105, rfl⟩
abbrev main_call0_v70 : Ref sig .tc := ⟨.hbm, 106, rfl⟩
abbrev main_call0_c_23 : Ref sig .tc := ⟨.hbm, 107, rfl⟩
abbrev main_call0_call3_v0 : Ref sig .tc := ⟨.hbm, 108, rfl⟩
abbrev main_call0_call3_v1 : Ref sig .tc := ⟨.hbm, 109, rfl⟩
abbrev main_call0_v71 : Ref sig .tc := ⟨.hbm, 110, rfl⟩
abbrev main_call0_v72 : Ref sig .tc := ⟨.hbm, 111, rfl⟩
abbrev main_call0_v73 : Ref sig .tc := ⟨.hbm, 112, rfl⟩
abbrev main_call0_c_24 : Ref sig .tc := ⟨.hbm, 113, rfl⟩
abbrev main_call0_call4_v0 : Ref sig .tc := ⟨.hbm, 114, rfl⟩
abbrev main_call0_call4_v1 : Ref sig .tc := ⟨.hbm, 115, rfl⟩
abbrev main_call0_call4_v2 : Ref sig .tc := ⟨.hbm, 116, rfl⟩
abbrev main_call0_v74 : Ref sig .tc := ⟨.hbm, 117, rfl⟩
abbrev main_call0_cst_25 : Ref sig .tc := ⟨.hbm, 118, rfl⟩
abbrev main_call0_v75 : Ref sig .tc := ⟨.hbm, 119, rfl⟩
abbrev main_call0_v76 : Ref sig .tc := ⟨.hbm, 120, rfl⟩
abbrev main_call0_cst_26 : Ref sig .tc := ⟨.hbm, 121, rfl⟩
abbrev main_call0_v77 : Ref sig .tc := ⟨.hbm, 122, rfl⟩
abbrev main_call0_v78 : Ref sig .tc := ⟨.hbm, 123, rfl⟩
abbrev main_call0_v79 : Ref sig .tc := ⟨.hbm, 124, rfl⟩
abbrev main_call0_v80 : Ref sig .tc := ⟨.hbm, 125, rfl⟩
abbrev main_call0_c_27 : Ref sig .tc := ⟨.hbm, 126, rfl⟩
abbrev main_call0_call5_v0 : Ref sig .tc := ⟨.hbm, 127, rfl⟩
abbrev main_call0_call5_v1 : Ref sig .tc := ⟨.hbm, 128, rfl⟩
abbrev main_call0_call5_v2 : Ref sig .tc := ⟨.hbm, 129, rfl⟩
abbrev main_call0_v81 : Ref sig .tc := ⟨.hbm, 130, rfl⟩
abbrev main_call0_v82 : Ref sig .tc := ⟨.hbm, 131, rfl⟩
abbrev main_call0_v83 : Ref sig .tc := ⟨.hbm, 132, rfl⟩
abbrev main_v1 : Ref sig .tc := ⟨.hbm, 133, rfl⟩
abbrev main_v2 : Ref sig .tc := ⟨.hbm, 134, rfl⟩
abbrev main_v3 : Ref sig .tc := ⟨.hbm, 135, rfl⟩
abbrev main_v4 : Ref sig .tc := ⟨.hbm, 136, rfl⟩
abbrev main_cst : Ref sig .tc := ⟨.hbm, 137, rfl⟩
abbrev main_v5 : Ref sig .tc := ⟨.hbm, 138, rfl⟩
abbrev main_v6 : Ref sig .tc := ⟨.hbm, 139, rfl⟩
abbrev main_v7 : Ref sig .tc := ⟨.hbm, 140, rfl⟩
abbrev main_cst_0 : Ref sig .tc := ⟨.hbm, 141, rfl⟩
abbrev main_v8 : Ref sig .tc := ⟨.hbm, 142, rfl⟩
abbrev main_call1_v0 : Ref sig .tc := ⟨.hbm, 143, rfl⟩
abbrev main_call1_cst : Ref sig .tc := ⟨.hbm, 144, rfl⟩
abbrev main_call1_c : Ref sig .tc := ⟨.hbm, 145, rfl⟩
abbrev main_call1_v1_0 : Ref sig .tc := ⟨.hbm, 146, rfl⟩
abbrev main_v9 : Ref sig .tc := ⟨.hbm, 147, rfl⟩
abbrev main_call2_v0 : Ref sig .tc := ⟨.hbm, 148, rfl⟩
abbrev main_call2_v1 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_v10 : Ref sig .tc := ⟨.hbm, 153, rfl⟩
abbrev main_cst_1 : Ref sig .tc := ⟨.hbm, 154, rfl⟩
abbrev main_v11 : Ref sig .tc := ⟨.hbm, 155, rfl⟩
abbrev main_v12 : Ref sig .tc := ⟨.hbm, 156, rfl⟩
abbrev main_v13 : Ref sig .tc := ⟨.hbm, 157, rfl⟩
abbrev main_call3_v0 : Ref sig .tc := ⟨.hbm, 158, rfl⟩
abbrev main_v14 : Ref sig .tc := ⟨.hbm, 159, rfl⟩
abbrev main_cst_2 : Ref sig .tc := ⟨.hbm, 160, rfl⟩
abbrev main_v15 : Ref sig .tc := ⟨.hbm, 161, rfl⟩
abbrev main_v16 : Ref sig .tc := ⟨.hbm, 162, rfl⟩
abbrev main_v17 : Ref sig .tc := ⟨.hbm, 163, rfl⟩
abbrev main_v18 : Ref sig .tc := ⟨.hbm, 164, rfl⟩
abbrev main_v19 : Ref sig .tc := ⟨.hbm, 165, rfl⟩

abbrev nD : Nat := 1
abbrev τ : Topo := Topo.v7x

variable {F : FTy → Type} [FloatOps F]
-- ==== Proof.Mem.lean ====
/-
  Loads and stores of a WHOLE memref, at the level of what it holds: a load at the rectangle that starts at the origin and has
  the memref's own sizes gives the contents, an unmasked store there replaces them. Used for every memory operation of the kernel.
-/
module

public import Idealize.ShloMosaic.Lib.Pipeline.FrameBody
public import Idealize.ShloMosaic.Lib.Tactic

@[expose] public section

noncomputable section

namespace Cert.Mem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} {U : Type} [URA U]
variable {defs : Defs nD τ sig Val Λ} (𝒱 : Variants) (c : Thread nD τ) (bd : Option 𝒱.V) (E : Set ℕ)
variable {s : Shape} {e : EltTy}

local notation "𝕄" => MT nD τ sig Unit Val ℕ U ℕ

/-- The rectangle at the origin with the shape's sizes reads every index as itself. -/
theorem emb_full (off : Fin s.rank → ℕ) (h0 : ∀ a, off a = 0) (inb : ∀ a, off a + s.size a ≤ s.size a) (j : s.Idx) :
    (Rect.unit off s.size inb).emb j = j := by
  refine (Rect.unit off s.size inb).emb_eq_of_coords j j fun a => ?_
  show (j a).val = off a + 1 * (j a).val
  rw [h0, Nat.zero_add, Nat.one_mul]

/-- Its elements through a view are the view's. -/
theorem set_full {κ : Kind} {sp : Space} (v : View sig κ sp s e) (off : Fin s.rank → ℕ) (h0 : ∀ a, off a = 0)
    (inb : ∀ a, off a + s.size a ≤ s.size a) : (v.slice (Rect.unit off s.size inb)).set = v.set := by
  rw [View.set_slice, Rect.set_eq_univ_of_whole _ fun a => ⟨h0 a, rfl, rfl⟩]
  rfl

/-- A load of the whole memref gives its contents. -/
theorem load_full {cs : CoreSpace} {m : Memref sig c.2.kind cs s e} {off : Fin s.rank → ℕ} (h0 : ∀ a, off a = 0)
    {inb : ∀ a, off a + s.size a ≤ s.size a} {hl : m.view.LoadsAt (Rect.unit off s.size inb).toLoadRect}
    {X : s.Idx → Val e} {Q : (s.Idx → Val e) → sProp 𝕄} :
    iprop(owns c m fullShare X ∗ (owns c m fullShare X -∗ Q X))
      ⊢ wp frame (wpE defs 𝒱 c bd) E (Prog.lift (.load m (Rect.unit off s.size inb).toLoadRect hl) : Prog (TpuEff nD τ sig Val Λ c.2) (s.Idx → Val e)) Q := by
  unfold owns
  iintro ⟨⟨%f, %hf, H⟩, HQ⟩
  have hr : (m.access (Rect.unit off s.size inb)).read Val f = X := by
    funext j
    rw [← hf]
    exact congrArg (m.view.read Val f) (emb_full off h0 inb j)
  iapply (wp_load_rect 𝒱 c bd E (m := m) (r := Rect.unit off s.size inb) (hl := hl) (k := Prog.ret) (Q := Q) (S := m.view.set) (f := f)
    (set_full m.view off h0 inb).le) $$ H
  iintro H
  rw [hr, wp_ret]
  iapply fupd_intro
  iapply HQ
  iexists f
  isplitr
  · ipureintro; exact hf
  · iexact H

/-- A store of the whole memref replaces its contents. -/
theorem store_full {cs : CoreSpace} {m : Memref sig c.2.kind cs s e} {off : Fin s.rank → ℕ} (h0 : ∀ a, off a = 0)
    {inb : ∀ a, off a + s.size a ≤ s.size a} {w : s.Idx → Val e}
    {hx : (m.access (Rect.unit off s.size inb)).Stores Finset.univ}
    {hm : (Finset.univ : Finset (Rect.unit off s.size inb).shape.Idx) = Finset.univ ∨ ∀ a, (Rect.unit off s.size inb).stride a = 1}
    {X : s.Idx → Val e} {Q : PUnit → sProp 𝕄} :
    iprop(owns c m fullShare X ∗ (owns c m fullShare w -∗ Q ⟨⟩))
      ⊢ wp frame (wpE defs 𝒱 c bd) E (Prog.lift (.store m (Rect.unit off s.size inb) w Finset.univ hx hm) : Prog (TpuEff nD τ sig Val Λ c.2) PUnit) Q := by
  unfold owns
  iintro ⟨⟨%f, %hf, H⟩, HQ⟩
  iapply (wp_store 𝒱 c bd E (m := m) (r := Rect.unit off s.size inb) (hx := hx) (hm := hm) (w := w) (k := Prog.ret) (Q := Q) (S := m.view.set) (f := f)
    (set_full m.view off h0 inb).le) $$ H
  iintro H
  rw [wp_ret]
  iapply fupd_intro
  iapply HQ
  iexists _
  isplitr
  swap
  · iexact H
  ipureintro
  funext j
  have h := congrFun ((m.access (Rect.unit off s.size inb)).read_write_univ (Val := Val) f w) j
  rw [← h]
  exact (congrArg (m.view.read Val _) (emb_full off h0 inb j)).symm

end Cert.Mem

end
-- ==== Proof.KernelIdeal.Body.lean ====
/-
  The kernel body as a step on what its buffers hold.

  The body works on the two input blocks, the output block and three scratch buffers. `St` is what the last four hold, `step` is
  what the body does to it, one named part per conditional of the kernel, and `body_step` is the proof that the printed body does
  exactly that, whatever the buffers hold when it starts.
-/
module

public import proofs.«01_k».proof.Proof.Gen.KernelIdeal.Frame
public import proofs.«01_k».proof.Proof.Gen.KernelIdeal.Skeleton
public import proofs.«01_k».proof.Proof.Mem

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## What the buffers hold, and the step -/

/-- What the output block and the three scratch buffers hold: the partial sums, the pixel counts, the best value and the feature
    of the best pixel. -/
structure St (F : FTy → Type) where
  out : Vec F S1x16x384 .f32
  cnt : Vec F S16x1 .f32
  bv : Vec F S16x1 .f32
  bf : Vec F S16x384 .f32

/-- The lane numbers the fallback reads. -/
abbrev lanes : IVec S16x32x512 32 := iota .tc S16x32x512 32 [2] iota_S16x32x512_d2_w32

/-- The row numbers of the selection matrix. -/
abbrev rows : IVec S512x128 32 := iota .tc S512x128 32 [0] iota_S512x128_d0_w32

/-- The block's number along the second grid axis, as the kernel's word. -/
abbrev hb (i : grid0.Coords) : BitVec 32 := BitVec.ofNat 32 (i 1).val

/-- The test for running the fallback: some count is still nought. -/
def low (cnt : Vec F S16x1 .f32) : BitVec 1 :=
  Scalar.cmpi .ne (Scalar.extui (Scalar.cmpf .ole (k0_pay9 cnt) (Scalar.ofBits .f32 0x00000000#32)) : BitVec 32) 0#32

/-- The test for the first block, inside the fallback. -/
def isFirst (a : BitVec 32) : BitVec 1 := Scalar.cmpi .ne (Scalar.extui (Scalar.cmpi .eq a 0#32) : BitVec 32) 0#32

/-- The test for a later block, inside the fallback. -/
def isLater (a : BitVec 32) : BitVec 1 := Scalar.cmpi .ne (Scalar.extui (Scalar.cmpi .ne a 0#32) : BitVec 32) 0#32

section step

variable (i : grid0.Coords) (x0 : Vec F S1x16x128x512 .f32) (x1 : Vec F S1x384x4096 .f32)

/-- First block: the sums and counts start from this block's. -/
def start (s : St F) : St F :=
  if k0_cond1 i = 1#1 then
    { s with out := k0_pay5 (k0_pay20 x0) rows k0_pay21 k0_pay22 x1, cnt := k0_pay6 (k0_pay20 x0) rows k0_pay21 k0_pay22 }
  else s

/-- Later block: this block's sums and counts are added. -/
def add (s : St F) : St F :=
  if k0_cond2 i = 1#1 then
    { s with out := k0_pay7 (k0_pay20 x0) rows k0_pay21 k0_pay22 x1 s.out, cnt := k0_pay8 (k0_pay20 x0) rows k0_pay21 k0_pay22 s.cnt }
  else s

/-- The fallback at the first block. -/
def bestFirst (s : St F) : St F :=
  if isFirst (hb i) = 1#1 then
    { s with bv := k0_pay12 (k0_pay18 x0) k0_pay19, bf := k0_pay13 (hb i) (k0_pay18 x0) lanes k0_pay19 x1 }
  else s

/-- The fallback at a later block. -/
def bestLater (s : St F) : St F :=
  if isLater (hb i) = 1#1 then
    { s with bv := k0_pay15 (k0_pay18 x0) k0_pay19 s.bv s.bv, bf := k0_pay16 (hb i) (k0_pay18 x0) lanes k0_pay19 x1 s.bv s.bf }
  else s

/-- The fallback, when some count is still nought. -/
def best (s : St F) : St F := if low s.cnt = 1#1 then bestLater i x0 x1 (bestFirst i x0 x1 s) else s

/-- Last block: the output is the quotient, or the best pixel's feature. -/
def finish (s : St F) : St F := if k0_cond6 i = 1#1 then { s with out := k0_pay17 s.cnt s.out s.bf } else s

/-- The whole body. -/
def step (s : St F) : St F := finish i (best i x0 x1 (add i x0 x1 (start i x0 x1 s)))

end step

/-! ## The body's parts as programs -/

/-- Load or store a whole count, feature or output buffer. -/
abbrev ldC (m : Memref sig .tc .vmem S16x1 .f32) : Prog (TpuEff nD τ sig (Elt F) Λ₀ .tc) (Vec F S16x1 .f32) :=
  Prog.lift (.load m (Rect.unit (s := S16x1) ![0, 0] S16x1.size inb_S16x1_S16x1_0_0).toLoadRect (View.loadsAt_vmem h_S16x1))
abbrev stC (m : Memref sig .tc .vmem S16x1 .f32) (w : Vec F S16x1 .f32) : Prog (TpuEff nD τ sig (Elt F) Λ₀ .tc) PUnit :=
  Prog.lift (.store m (Rect.unit (s := S16x1) ![0, 0] S16x1.size inb_S16x1_S16x1_0_0) w Finset.univ (View.stores_vmem_bits_univ h_S16x1 rfl) (.inl rfl))
abbrev ldB (m : Memref sig .tc .vmem S16x384 .f32) : Prog (TpuEff nD τ sig (Elt F) Λ₀ .tc) (Vec F S16x384 .f32) :=
  Prog.lift (.load m (Rect.unit (s := S16x384) ![0, 0] S16x384.size inb_S16x384_S16x384_0_0).toLoadRect (View.loadsAt_vmem h_S16x384))
abbrev stB (m : Memref sig .tc .vmem S16x384 .f32) (w : Vec F S16x384 .f32) : Prog (TpuEff nD τ sig (Elt F) Λ₀ .tc) PUnit :=
  Prog.lift (.store m (Rect.unit (s := S16x384) ![0, 0] S16x384.size inb_S16x384_S16x384_0_0) w Finset.univ (View.stores_vmem_bits_univ h_S16x384 rfl) (.inl rfl))
abbrev ldO (m : Memref sig .tc .vmem S1x16x384 .f32) : Prog (TpuEff nD τ sig (Elt F) Λ₀ .tc) (Vec F S1x16x384 .f32) :=
  Prog.lift (.load m (Rect.unit (s := S1x16x384) ![0, 0, 0] S1x16x384.size inb_S1x16x384_S1x16x384_0_0_0).toLoadRect (View.loadsAt_vmem h_S1x16x384))
abbrev stO (m : Memref sig .tc .vmem S1x16x384 .f32) (w : Vec F S1x16x384 .f32) : Prog (TpuEff nD τ sig (Elt F) Λ₀ .tc) PUnit :=
  Prog.lift (.store m (Rect.unit (s := S1x16x384) ![0, 0, 0] S1x16x384.size inb_S1x16x384_S1x16x384_0_0_0) w Finset.univ (View.stores_vmem_bits_univ h_S1x16x384 rfl) (.inl rfl))

section parts

variable (i : grid0.Coords) (x0 : Vec F S1x16x128x512 .f32) (x1 : Vec F S1x384x4096 .f32)
variable (arg2 : Memref sig .tc .vmem S1x16x128x512 .f32) (harg2 : arg2.IsWhole)
variable (arg3 : Memref sig .tc .vmem S1x384x4096 .f32) (harg3 : arg3.IsWhole)
variable (arg4 : Memref sig .tc .vmem S1x16x384 .f32) (harg4 : arg4.IsWhole)
variable (arg5 : Memref sig .tc .vmem S16x1 .f32) (harg5 : arg5.IsWhole)
variable (arg6 : Memref sig .tc .vmem S16x1 .f32) (harg6 : arg6.IsWhole)
variable (arg7 : Memref sig .tc .vmem S16x384 .f32) (harg7 : arg7.IsWhole)
variable (k : Prog (TpuEff nD τ sig (Elt F) Λ₀ .tc) PUnit)

/-- The first accumulating branch. -/
def startP : Prog (TpuEff nD τ sig (Elt F) Λ₀ .tc) PUnit :=
  if _h : k0_cond1 i = 1#1 then do
    let _ ← ldO (F := F) arg4
    stO arg4 (k0_pay5 (k0_pay20 x0) rows k0_pay21 k0_pay22 x1)
    let _ ← ldC (F := F) arg5
    stC arg5 (k0_pay6 (k0_pay20 x0) rows k0_pay21 k0_pay22)
    k
  else k

/-- The second accumulating branch. -/
def addP : Prog (TpuEff nD τ sig (Elt F) Λ₀ .tc) PUnit :=
  if _h : k0_cond2 i = 1#1 then do
    let v ← ldO (F := F) arg4
    let _ ← ldO (F := F) arg4
    stO arg4 (k0_pay7 (k0_pay20 x0) rows k0_pay21 k0_pay22 x1 v)
    let u ← ldC (F := F) arg5
    let _ ← ldC (F := F) arg5
    stC arg5 (k0_pay8 (k0_pay20 x0) rows k0_pay21 k0_pay22 u)
    k
  else k

/-- The fallback at a first block. -/
def bestFirstP : Prog (TpuEff nD τ sig (Elt F) Λ₀ .tc) PUnit :=
  if _h : isFirst (hb i) = 1#1 then do
    let _ ← ldC (F := F) arg6
    stC arg6 (k0_pay12 (k0_pay18 x0) k0_pay19)
    let _ ← ldB (F := F) arg7
    stB arg7 (k0_pay13 (hb i) (k0_pay18 x0) lanes k0_pay19 x1)
    k
  else k

/-- The fallback at a later block. -/
def bestLaterP : Prog (TpuEff nD τ sig (Elt F) Λ₀ .tc) PUnit :=
  if _h : isLater (hb i) = 1#1 then do
    let v ← ldC (F := F) arg6
    let u ← ldC (F := F) arg6
    let _ ← ldC (F := F) arg6
    stC arg6 (k0_pay15 (k0_pay18 x0) k0_pay19 v u)
    let w ← ldB (F := F) arg7
    let _ ← ldB (F := F) arg7
    stB arg7 (k0_pay16 (hb i) (k0_pay18 x0) lanes k0_pay19 x1 v w)
    k
  else k

/-- The fallback, taken when some count is still zero. -/
def bestP : Prog (TpuEff nD τ sig (Elt F) Λ₀ .tc) PUnit := do
  let c ← ldC (F := F) arg5
  if low c = 1#1 then bestFirstP i x0 x1 arg6 arg7 (bestLaterP i x0 x1 arg6 arg7 k) else k

/-- The closing branch. -/
def finishP : Prog (TpuEff nD τ sig (Elt F) Λ₀ .tc) PUnit :=
  if _h : k0_cond6 i = 1#1 then do
    let v ← ldC (F := F) arg5
    let u ← ldO (F := F) arg4
    let w ← ldB (F := F) arg7
    let _ ← ldO (F := F) arg4
    stO arg4 (k0_pay17 v u w)
    pure ⟨⟩
  else pure ⟨⟩

/-- The body after its two input blocks are loaded. -/
def restP : Prog (TpuEff nD τ sig (Elt F) Λ₀ .tc) PUnit :=
  startP i x0 x1 arg4 arg5 (addP i x0 x1 arg4 arg5 (bestP i x0 x1 arg5 arg6 arg7 (finishP i arg4 arg5 arg7)))

/-- The printed body is the two loads and then the parts in turn. -/
theorem kern_eq : cc0__kern (F := F) i arg2 harg2 arg3 harg3 arg4 harg4 arg5 harg5 arg6 harg6 arg7 harg7
    = (do
        let x0 ← (Prog.lift (.load arg2 (Rect.unit (s := S1x16x128x512) ![0, 0, 0, 0] S1x16x128x512.size inb_S1x16x128x512_S1x16x128x512_0_0_0_0).toLoadRect (View.loadsAt_vmem h_S1x16x128x512)) :
          Prog (TpuEff nD τ sig (Elt F) Λ₀ .tc) (Vec F S1x16x128x512 .f32))
        let x1 ← (Prog.lift (.load arg3 (Rect.unit (s := S1x384x4096) ![0, 0, 0] S1x384x4096.size inb_S1x384x4096_S1x384x4096_0_0_0).toLoadRect (View.loadsAt_vmem h_S1x384x4096)) :
          Prog (TpuEff nD τ sig (Elt F) Λ₀ .tc) (Vec F S1x384x4096 .f32))
        restP i x0 x1 arg4 arg5 arg6 arg7) := by
  rw [cc0__kern_eq_skeleton]
  unfold cc0__kern_skel
  rw [k0_part1_eq_skeleton]
  rfl

/-! ## Each part does its piece of the step -/

variable (c : Dev nD)

/-- The buffers the body works on, holding the two blocks and a state. -/
def held (s : St F) : sProp 𝕄 :=
  iprop(owns (c : Thread nD τ) arg2 fullShare x0 ∗ owns (c : Thread nD τ) arg3 fullShare x1 ∗ owns (c : Thread nD τ) arg4 fullShare s.out
    ∗ owns (c : Thread nD τ) arg5 fullShare s.cnt ∗ owns (c : Thread nD τ) arg6 fullShare s.bv ∗ owns (c : Thread nD τ) arg7 fullShare s.bf)

/-- The body's programs, run on core `c`. -/
abbrev runs (p : Prog (TpuEff nD τ sig (Elt F) Λ₀ .tc) PUnit.{1}) (Q : PUnit.{1} → sProp 𝕄) : sProp 𝕄 :=
  wp frame (wpE (defs₀ (F := F)) Variants.none (c : Thread nD τ) none) Set.univ p Q

/-- Two zero offsets. -/
theorem z2 : ∀ a : Fin 2, (![0, 0] : Fin 2 → ℕ) a = 0 := by decide
/-- Three zero offsets. -/
theorem z3 : ∀ a : Fin 3, (![0, 0, 0] : Fin 3 → ℕ) a = 0 := by decide
/-- Four zero offsets. -/
theorem z4 : ∀ a : Fin 4, (![0, 0, 0, 0] : Fin 4 → ℕ) a = 0 := by decide

variable {k}

/-- Nothing left to run. -/
theorem done {Q : PUnit.{1} → sProp 𝕄} : Q ⟨⟩ ⊢ runs c (pure ⟨⟩) Q := by
  unfold runs
  rw [show (pure ⟨⟩ : Prog (TpuEff nD τ sig (Elt F) Λ₀ .tc) PUnit.{1}) = Prog.ret ⟨⟩ from rfl, wp_ret]
  exact fupd_intro

/-- The first block's part. -/
theorem startP_step {s : St F} {Q : PUnit.{1} → sProp 𝕄}
    (hk : held x0 x1 arg2 arg3 arg4 arg5 arg6 arg7 c (start i x0 x1 s) ⊢ runs c k Q) :
    held x0 x1 arg2 arg3 arg4 arg5 arg6 arg7 c s ⊢ runs c (startP i x0 x1 arg4 arg5 k) Q := by
  unfold startP
  unfold start at hk
  split
  · next h =>
    rw [if_pos h] at hk
    unfold held at hk ⊢
    simp only [wp_bind, runs] at hk ⊢
    iintro ⟨H2, H3, H4, H5, H6, H7⟩
    iapply (Mem.load_full Variants.none (c : Thread nD τ) none Set.univ z3)
    isplitl [H4]
    · iexact H4
    iintro H4
    iapply (Mem.store_full Variants.none (c : Thread nD τ) none Set.univ z3)
    isplitl [H4]
    · iexact H4
    iintro H4
    iapply (Mem.load_full Variants.none (c : Thread nD τ) none Set.univ z2)
    isplitl [H5]
    · iexact H5
    iintro H5
    iapply (Mem.store_full Variants.none (c : Thread nD τ) none Set.univ z2)
    isplitl [H5]
    · iexact H5
    iintro H5
    iapply hk $$ [H2 H3 H4 H5 H6 H7]
    iframe
  · next h =>
    rw [if_neg h] at hk
    exact hk

/-- A later block's part. -/
theorem addP_step {s : St F} {Q : PUnit.{1} → sProp 𝕄}
    (hk : held x0 x1 arg2 arg3 arg4 arg5 arg6 arg7 c (add i x0 x1 s) ⊢ runs c k Q) :
    held x0 x1 arg2 arg3 arg4 arg5 arg6 arg7 c s ⊢ runs c (addP i x0 x1 arg4 arg5 k) Q := by
  unfold addP
  unfold add at hk
  split
  · next h =>
    rw [if_pos h] at hk
    unfold held at hk ⊢
    simp only [wp_bind, runs] at hk ⊢
    iintro ⟨H2, H3, H4, H5, H6, H7⟩
    iapply (Mem.load_full Variants.none (c : Thread nD τ) none Set.univ z3)
    isplitl [H4]
    · iexact H4
    iintro H4
    iapply (Mem.load_full Variants.none (c : Thread nD τ) none Set.univ z3)
    isplitl [H4]
    · iexact H4
    iintro H4
    iapply (Mem.store_full Variants.none (c : Thread nD τ) none Set.univ z3)
    isplitl [H4]
    · iexact H4
    iintro H4
    iapply (Mem.load_full Variants.none (c : Thread nD τ) none Set.univ z2)
    isplitl [H5]
    · iexact H5
    iintro H5
    iapply (Mem.load_full Variants.none (c : Thread nD τ) none Set.univ z2)
    isplitl [H5]
    · iexact H5
    iintro H5
    iapply (Mem.store_full Variants.none (c : Thread nD τ) none Set.univ z2)
    isplitl [H5]
    · iexact H5
    iintro H5
    iapply hk $$ [H2 H3 H4 H5 H6 H7]
    iframe
  · next h =>
    rw [if_neg h] at hk
    exact hk

/-- The fallback's part at the first block. -/
theorem bestFirstP_step {s : St F} {Q : PUnit.{1} → sProp 𝕄}
    (hk : held x0 x1 arg2 arg3 arg4 arg5 arg6 arg7 c (bestFirst i x0 x1 s) ⊢ runs c k Q) :
    held x0 x1 arg2 arg3 arg4 arg5 arg6 arg7 c s ⊢ runs c (bestFirstP i x0 x1 arg6 arg7 k) Q := by
  unfold bestFirstP
  unfold bestFirst at hk
  split
  · next h =>
    rw [if_pos h] at hk
    unfold held at hk ⊢
    simp only [wp_bind, runs] at hk ⊢
    iintro ⟨H2, H3, H4, H5, H6, H7⟩
    iapply (Mem.load_full Variants.none (c : Thread nD τ) none Set.univ z2)
    isplitl [H6]
    · iexact H6
    iintro H6
    iapply (Mem.store_full Variants.none (c : Thread nD τ) none Set.univ z2)
    isplitl [H6]
    · iexact H6
    iintro H6
    iapply (Mem.load_full Variants.none (c : Thread nD τ) none Set.univ z2)
    isplitl [H7]
    · iexact H7
    iintro H7
    iapply (Mem.store_full Variants.none (c : Thread nD τ) none Set.univ z2)
    isplitl [H7]
    · iexact H7
    iintro H7
    iapply hk $$ [H2 H3 H4 H5 H6 H7]
    iframe
  · next h =>
    rw [if_neg h] at hk
    exact hk

/-- The fallback's part at a later block. -/
theorem bestLaterP_step {s : St F} {Q : PUnit.{1} → sProp 𝕄}
    (hk : held x0 x1 arg2 arg3 arg4 arg5 arg6 arg7 c (bestLater i x0 x1 s) ⊢ runs c k Q) :
    held x0 x1 arg2 arg3 arg4 arg5 arg6 arg7 c s ⊢ runs c (bestLaterP i x0 x1 arg6 arg7 k) Q := by
  unfold bestLaterP
  unfold bestLater at hk
  split
  · next h =>
    rw [if_pos h] at hk
    unfold held at hk ⊢
    simp only [wp_bind, runs] at hk ⊢
    iintro ⟨H2, H3, H4, H5, H6, H7⟩
    iapply (Mem.load_full Variants.none (c : Thread nD τ) none Set.univ z2)
    isplitl [H6]
    · iexact H6
    iintro H6
    iapply (Mem.load_full Variants.none (c : Thread nD τ) none Set.univ z2)
    isplitl [H6]
    · iexact H6
    iintro H6
    iapply (Mem.load_full Variants.none (c : Thread nD τ) none Set.univ z2)
    isplitl [H6]
    · iexact H6
    iintro H6
    iapply (Mem.store_full Variants.none (c : Thread nD τ) none Set.univ z2)
    isplitl [H6]
    · iexact H6
    iintro H6
    iapply (Mem.load_full Variants.none (c : Thread nD τ) none Set.univ z2)
    isplitl [H7]
    · iexact H7
    iintro H7
    iapply (Mem.load_full Variants.none (c : Thread nD τ) none Set.univ z2)
    isplitl [H7]
    · iexact H7
    iintro H7
    iapply (Mem.store_full Variants.none (c : Thread nD τ) none Set.univ z2)
    isplitl [H7]
    · iexact H7
    iintro H7
    iapply hk $$ [H2 H3 H4 H5 H6 H7]
    iframe
  · next h =>
    rw [if_neg h] at hk
    exact hk

/-- The fallback, run or not. -/
theorem bestP_step {s : St F} {Q : PUnit.{1} → sProp 𝕄}
    (hk : held x0 x1 arg2 arg3 arg4 arg5 arg6 arg7 c (best i x0 x1 s) ⊢ runs c k Q) :
    held x0 x1 arg2 arg3 arg4 arg5 arg6 arg7 c s ⊢ runs c (bestP i x0 x1 arg5 arg6 arg7 k) Q := by
  have key : held x0 x1 arg2 arg3 arg4 arg5 arg6 arg7 c s
      ⊢ runs c (if low s.cnt = 1#1 then bestFirstP i x0 x1 arg6 arg7 (bestLaterP i x0 x1 arg6 arg7 k) else k) Q := by
    unfold best at hk
    split
    · next h =>
      rw [if_pos h] at hk
      exact bestFirstP_step i x0 x1 arg2 arg3 arg4 arg5 arg6 arg7 c (bestLaterP_step i x0 x1 arg2 arg3 arg4 arg5 arg6 arg7 c hk)
    · next h =>
      rw [if_neg h] at hk
      exact hk
  unfold bestP
  unfold held at key ⊢
  simp only [wp_bind, runs] at key ⊢
  iintro ⟨H2, H3, H4, H5, H6, H7⟩
  iapply (Mem.load_full Variants.none (c : Thread nD τ) none Set.univ z2)
  isplitl [H5]
  · iexact H5
  iintro H5
  iapply key $$ [H2 H3 H4 H5 H6 H7]
  iframe

/-- The last part. -/
theorem finishP_step {s : St F} :
    held x0 x1 arg2 arg3 arg4 arg5 arg6 arg7 c s
      ⊢ runs c (finishP i arg4 arg5 arg7) (fun _ => held x0 x1 arg2 arg3 arg4 arg5 arg6 arg7 c (finish i s)) := by
  unfold finishP finish
  split
  · unfold held
    simp only [wp_bind, runs]
    iintro ⟨H2, H3, H4, H5, H6, H7⟩
    iapply (Mem.load_full Variants.none (c : Thread nD τ) none Set.univ z2)
    isplitl [H5]
    · iexact H5
    iintro H5
    iapply (Mem.load_full Variants.none (c : Thread nD τ) none Set.univ z3)
    isplitl [H4]
    · iexact H4
    iintro H4
    iapply (Mem.load_full Variants.none (c : Thread nD τ) none Set.univ z2)
    isplitl [H7]
    · iexact H7
    iintro H7
    iapply (Mem.load_full Variants.none (c : Thread nD τ) none Set.univ z3)
    isplitl [H4]
    · iexact H4
    iintro H4
    iapply (Mem.store_full Variants.none (c : Thread nD τ) none Set.univ z3)
    isplitl [H4]
    · iexact H4
    iintro H4
    iapply (done (F := F) c (Q := fun _ => _))
    iframe
  · exact done (F := F) c (Q := fun _ => held x0 x1 arg2 arg3 arg4 arg5 arg6 arg7 c s)

/-- The body does `step`. -/
theorem body_step {s : St F} :
    held x0 x1 arg2 arg3 arg4 arg5 arg6 arg7 c s
      ⊢ runs c (cc0__kern (F := F) i arg2 harg2 arg3 harg3 arg4 harg4 arg5 harg5 arg6 harg6 arg7 harg7)
          (fun _ => held x0 x1 arg2 arg3 arg4 arg5 arg6 arg7 c (step i x0 x1 s)) := by
  have key := startP_step i x0 x1 arg2 arg3 arg4 arg5 arg6 arg7 c (s := s)
    (addP_step i x0 x1 arg2 arg3 arg4 arg5 arg6 arg7 c
      (bestP_step i x0 x1 arg2 arg3 arg4 arg5 arg6 arg7 c (finishP_step i x0 x1 arg2 arg3 arg4 arg5 arg6 arg7 c)))
  rw [kern_eq]
  unfold step
  unfold held at key ⊢
  simp only [wp_bind, runs] at key ⊢
  iintro ⟨H2, H3, H4, H5, H6, H7⟩
  iapply (Mem.load_full Variants.none (c : Thread nD τ) none Set.univ z4)
  isplitl [H2]
  · iexact H2
  iintro H2
  iapply (Mem.load_full Variants.none (c : Thread nD τ) none Set.univ z3)
  isplitl [H3]
  · iexact H3
  iintro H3
  unfold restP
  iapply key $$ [H2 H3 H4 H5 H6 H7]
  iframe

end parts

end Cert.KernelIdeal.Run

end
-- ==== Proof.KernelIdeal.Run.lean ====
/-
  The kernel's run over the grid.

  `steps` is what the buffers hold after the first `n` grid points when they held `s0` before the first. A block of the output and
  the counts do not depend on `s0` from the first point of a batch on (`steps_agree`). The features of the best pixels may: the
  fallback runs only where some count is nought, so the proof data say of each buffer that it holds what `steps` names from SOME
  starting contents.
-/
module

public import proofs.«01_k».proof.Proof.KernelIdeal.Body
public import Idealize.ShloMosaic.Lib.Claim
public import Idealize.ShloMosaic.Lib.Pipeline.ArrRel

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.KernelIdeal Cert.KernelIdeal.Gen

variable {F : FTy → Type} [FloatOps F]

local notation "𝕄" => MT nD τ sig Unit (Elt F) ℕ (UR sig nD τ) ℕ

/-! ## The conditions in closed form -/

/-- The grid's first coordinate at a step. -/
theorem coord0 (t : Fin cfg0.N) : (grid0.coords t 0).val = t.val / 4 % 4 := Pipeline.Grid.coords_val t 0 (by decide) rfl
/-- The grid's second coordinate at a step. -/
theorem coord1 (t : Fin cfg0.N) : (grid0.coords t 1).val = t.val % 4 := by
  have h : (grid0.coords t 1).val = t.val / 1 % 4 := Pipeline.Grid.coords_val t 1 (by decide) rfl
  rw [h, Nat.div_one]
/-- There are sixteen steps. -/
theorem lt16 (t : Fin cfg0.N) : t.val < 16 := Nat.lt_of_lt_of_eq t.isLt N_0

/-- The first accumulating branch is taken at the first block of an image. -/
theorem cond1_iff (t : Fin cfg0.N) : k0_cond1 (grid0.coords t) = 1#1 ↔ t.val % 4 = 0 := by
  have ht := lt16 t
  simp only [k0_cond1, coord1]
  word_cmp

/-- The second is taken at the later ones. -/
theorem cond2_iff (t : Fin cfg0.N) : k0_cond2 (grid0.coords t) = 1#1 ↔ t.val % 4 ≠ 0 := by
  have ht := lt16 t
  simp only [k0_cond2, coord1]
  word_cmp

/-- The closing branch is taken at the last block of an image. -/
theorem cond6_iff (t : Fin cfg0.N) : k0_cond6 (grid0.coords t) = 1#1 ↔ t.val % 4 = 3 := by
  have ht := lt16 t
  simp only [k0_cond6, coord1]
  word_cmp

/-- The fallback starts afresh at the first block of an image. -/
theorem isFirst_iff (t : Fin cfg0.N) : isFirst (hb (grid0.coords t)) = 1#1 ↔ t.val % 4 = 0 := by
  have ht := lt16 t
  simp only [isFirst, hb, coord1]
  word_cmp

/-- The fallback compares at the later ones. -/
theorem isLater_iff (t : Fin cfg0.N) : isLater (hb (grid0.coords t)) = 1#1 ↔ t.val % 4 ≠ 0 := by
  have ht := lt16 t
  simp only [isLater, hb, coord1]
  word_cmp

/-! ## What the step keeps -/

/-- Two states with the same partial sums and the same counts. -/
def Agree (s s' : St F) : Prop := s.out = s'.out ∧ s.cnt = s'.cnt

section keep

variable (i : grid0.Coords) (x0 : Vec F S1x16x128x512 .f32) (x1 : Vec F S1x384x4096 .f32)

/-- The fallback of a first block leaves the sums and the counts. -/
theorem bestFirst_agree (s : St F) : Agree (bestFirst i x0 x1 s) s := by
  unfold bestFirst; split <;> exact ⟨rfl, rfl⟩
/-- So does that of a later block. -/
theorem bestLater_agree (s : St F) : Agree (bestLater i x0 x1 s) s := by
  unfold bestLater; split <;> exact ⟨rfl, rfl⟩
/-- So does the fallback as a whole. -/
theorem best_agree (s : St F) : Agree (best i x0 x1 s) s := by
  unfold best
  split
  · have h := bestLater_agree i x0 x1 (bestFirst i x0 x1 s)
    have h' := bestFirst_agree i x0 x1 s
    exact ⟨h.1.trans h'.1, h.2.trans h'.2⟩
  · exact ⟨rfl, rfl⟩
/-- The closing leaves the counts. -/
theorem finish_cnt (s : St F) : (finish i s).cnt = s.cnt := by unfold finish; split <;> rfl
/-- The closing leaves the best values. -/
theorem finish_bv (s : St F) : (finish i s).bv = s.bv := by unfold finish; split <;> rfl
/-- The closing leaves the best features. -/
theorem finish_bf (s : St F) : (finish i s).bf = s.bf := by unfold finish; split <;> rfl
/-- Before the last block the closing leaves the sums. -/
theorem finish_out (h : ¬k0_cond6 i = 1#1) (s : St F) : (finish i s).out = s.out := by unfold finish; rw [if_neg h]

/-- The sums and counts after a first block are that block's alone. -/
theorem sums_first (h : k0_cond1 i = 1#1) (h' : ¬k0_cond2 i = 1#1) (s s' : St F) :
    Agree (add i x0 x1 (start i x0 x1 s)) (add i x0 x1 (start i x0 x1 s')) := by
  unfold add start; rw [if_pos h, if_pos h, if_neg h', if_neg h']; exact ⟨rfl, rfl⟩

/-- After a later block they are that block's and what was there before. -/
theorem sums_later (h : ¬k0_cond1 i = 1#1) (h' : k0_cond2 i = 1#1) {s s' : St F} (a : Agree s s') :
    Agree (add i x0 x1 (start i x0 x1 s)) (add i x0 x1 (start i x0 x1 s')) := by
  unfold add start; rw [if_neg h, if_neg h, if_pos h', if_pos h']
  exact ⟨by dsimp only; rw [a.1], by dsimp only; rw [a.2]⟩

/-- The counts after a step are those after the accumulating branches. -/
theorem step_cnt (s : St F) : (step i x0 x1 s).cnt = (add i x0 x1 (start i x0 x1 s)).cnt := by
  unfold step; rw [finish_cnt]; exact (best_agree i x0 x1 _).2

/-- Before the last block so are the sums. -/
theorem step_out (h : ¬k0_cond6 i = 1#1) (s : St F) : (step i x0 x1 s).out = (add i x0 x1 (start i x0 x1 s)).out := by
  unfold step; rw [finish_out i h]; exact (best_agree i x0 x1 _).1

/-- At a first block the step does not look at the output buffer or the counts. -/
theorem step_first (h : k0_cond1 i = 1#1) (s : St F) (o : Vec F S1x16x384 .f32) : step i x0 x1 { s with out := o } = step i x0 x1 s := by
  have e : start i x0 x1 { s with out := o } = start i x0 x1 s := by unfold start; rw [if_pos h, if_pos h]
  unfold step; rw [e]

end keep

/-! ## The states over the grid -/

variable (m : (ℓ : Loc nD τ sig) → Buf (Elt F) ℓ) (ρ : Dev nD → PrngReg)

/-- The scribbles block and the feature block at a point. -/
abbrev blk0 (c : Dev nD) (t : Fin cfg0.N) : Vec F S1x16x128x512 .f32 := iblk m c 0 t
abbrev blk1 (c : Dev nD) (t : Fin cfg0.N) : Vec F S1x384x4096 .f32 := iblk m c 1 t

/-- What the buffers hold after the first `n` points. -/
def steps (c : Dev nD) (s0 : St F) : ℕ → St F
  | 0 => s0
  | n + 1 => if h : n < cfg0.N then step (grid0.coords ⟨n, h⟩) (blk0 m c ⟨n, h⟩) (blk1 m c ⟨n, h⟩) (steps c s0 n) else steps c s0 n

/-- The state after a step is the step applied to the state before it. -/
theorem steps_succ (c : Dev nD) (s0 : St F) (t : Fin cfg0.N) :
    steps m c s0 (t.val + 1) = step (grid0.coords t) (blk0 m c t) (blk1 m c t) (steps m c s0 t.val) := by
  show (if h : t.val < cfg0.N then _ else _) = _
  rw [dif_pos t.isLt]

/-- Inside a batch the sums and counts do not depend on what the buffers held at the start. -/
theorem steps_agree (c : Dev nD) (s0 s0' : St F) : ∀ (n : ℕ) (hn : n ≤ cfg0.N), n % 4 ≠ 0 → Agree (steps m c s0 n) (steps m c s0' n)
  | 0, _, h => absurd rfl h
  | n + 1, hn, h => by
    have hs := steps_succ m c s0 ⟨n, hn⟩
    have hs' := steps_succ m c s0' ⟨n, hn⟩
    have h6 : ¬k0_cond6 (grid0.coords (⟨n, hn⟩ : Fin cfg0.N)) = 1#1 := fun e => by
      have := (cond6_iff ⟨n, hn⟩).mp e; dsimp only at this; omega
    dsimp only at hs hs'
    rw [hs, hs']
    have key : Agree (add (grid0.coords (⟨n, hn⟩ : Fin cfg0.N)) (blk0 m c ⟨n, hn⟩) (blk1 m c ⟨n, hn⟩) (start (grid0.coords (⟨n, hn⟩ : Fin cfg0.N)) (blk0 m c ⟨n, hn⟩) (blk1 m c ⟨n, hn⟩) (steps m c s0 n)))
        (add (grid0.coords (⟨n, hn⟩ : Fin cfg0.N)) (blk0 m c ⟨n, hn⟩) (blk1 m c ⟨n, hn⟩) (start (grid0.coords (⟨n, hn⟩ : Fin cfg0.N)) (blk0 m c ⟨n, hn⟩) (blk1 m c ⟨n, hn⟩) (steps m c s0' n))) := by
      by_cases h0 : n % 4 = 0
      · exact sums_first _ _ _ ((cond1_iff ⟨n, hn⟩).mpr h0) (fun e => (cond2_iff ⟨n, hn⟩).mp e h0) _ _
      · exact sums_later _ _ _ (fun e => h0 ((cond1_iff ⟨n, hn⟩).mp e)) ((cond2_iff ⟨n, hn⟩).mpr h0) (steps_agree c s0 s0' n (Nat.le_of_lt hn) h0)
    exact ⟨by rw [step_out _ _ _ h6, step_out _ _ _ h6]; exact key.1, by rw [step_cnt, step_cnt]; exact key.2⟩

/-! ## The proof data -/

/-- The scratch operands. -/
abbrev sc0 : Memref sig .tc .vmem S16x1 .f32 := Memref.whole cc0_scratch0
abbrev sc1 : Memref sig .tc .vmem S16x1 .f32 := Memref.whole cc0_scratch1
abbrev sc2 : Memref sig .tc .vmem S16x384 .f32 := Memref.whole cc0_scratch2

/-- Before point `n` the scratch buffers hold what `steps` names, from some starting contents. -/
def inv (c : Dev nD) (n : ℕ) : sProp 𝕄 :=
  iprop((∃ s0, owns (c : Thread nD τ) sc0 fullShare (steps m c s0 n).cnt ∗ owns (c : Thread nD τ) sc1 fullShare (steps m c s0 n).bv
    ∗ owns (c : Thread nD τ) sc2 fullShare (steps m c s0 n).bf) ∗ (∃ r, prngReg c r))

/-- The inputs are left in place; the output block is left at what `steps` names, from some starting contents. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun _ X => ∃ s0, X = (steps m c s0 (t.val + 1)).out
  Φ t := inv m c t.val
  q _ := fullShare
  owed _ := 0

/-- A window's array is the one that memory held at the start. -/
theorem A_eq (c : Dev nD) (w : Fin cfg0.W) : (rdat m c).A w = V m c (Pipeline.arrRef spec0 w) := by dsimp only [rdat]

/-- A step leaves the block of scribbles as it found it. -/
theorem after_0 (c : Dev nD) (t : Fin cfg0.N) (Y X) : (rdat m c).after 0 t Y X ↔ X = Y := by dsimp only [rdat]; exact Iff.rfl
/-- A step leaves the block of features as it found it. -/
theorem after_1 (c : Dev nD) (t : Fin cfg0.N) (Y X) : (rdat m c).after 1 t Y X ↔ X = Y := by dsimp only [rdat]; exact Iff.rfl
/-- A step leaves the output block that the steps so far give. -/
theorem after_2 (c : Dev nD) (t : Fin cfg0.N) (Y X) : (rdat m c).after 2 t Y X ↔ ∃ s0, X = (steps m c s0 (t.val + 1)).out := by
  dsimp only [rdat]; exact Iff.rfl

/-- The input windows hold their blocks. -/
theorem finds_0 (c : Dev nD) (t : Fin cfg0.N) (Y) (h : (rdat m c).Finds 0 t Y) : Y = blk0 m c t := by
  obtain ⟨d, e⟩ := ((rdat m c).finds_of_fetch (fetch0_0 t) Y).mp h
  rw [e]
  unfold RDat.fetched RDat.blockOf blk0 iblk
  rw [A_eq]; rfl
/-- A step finds its block of the features. -/
theorem finds_1 (c : Dev nD) (t : Fin cfg0.N) (Y) (h : (rdat m c).Finds 1 t Y) : Y = blk1 m c t := by
  obtain ⟨d, e⟩ := ((rdat m c).finds_of_fetch (fetch0_1 t) Y).mp h
  rw [e]
  unfold RDat.fetched RDat.blockOf blk1 iblk
  rw [A_eq]; rfl

/-- Inside a batch the output window holds what the point before left. -/
theorem finds_2 (c : Dev nD) (t : Fin cfg0.N) (Y) (h : (rdat m c).Finds 2 t Y) (ht : t.val % 4 ≠ 0) :
    ∃ s0, Y = (steps m c s0 t.val).out := by
  have h0 : t.val ≠ 0 := fun e => ht (by rw [e])
  rcases ((rdat m c).finds_of_pos (w := 2) (t := t) rfl h0 Y).mp h with hf | ⟨Y', -, hl⟩
  · have := (flush0_2 _).mp hf
    dsimp only at this
    omega
  · obtain ⟨s0, e⟩ := (after_2 m c _ _ _).mp hl
    refine ⟨s0, ?_⟩
    rw [e]
    dsimp only
    rw [Nat.sub_add_cancel (Nat.pos_of_ne_zero h0)]

/-! ## The body at a point -/

/-- The body's row in the table. -/
theorem defs₀_row (t : Fin cfg0.N) : defs₀ (F := F) .tc cfg0.body (cfg0.bodyArgs t (cfg0.slots t)) = bodyAt0 t := by
  unfold defs₀; rw [Defs.onTc_tc]

/-- From what the point before left, one step leads to what `steps` names next. -/
theorem step_of_finds (c : Dev nD) (t : Fin cfg0.N) (s0 : St F) (Y : Vec F S1x16x384 .f32) (h : (rdat m c).Finds 2 t Y) :
    step (grid0.coords t) (blk0 m c t) (blk1 m c t) { steps m c s0 t.val with out := Y } = steps m c s0 (t.val + 1) := by
  rw [steps_succ]
  by_cases h0 : t.val % 4 = 0
  · exact step_first _ _ _ ((cond1_iff t).mpr h0) _ _
  · obtain ⟨s0', e⟩ := finds_2 m c t Y h h0
    rw [e, (steps_agree m c s0' s0 t.val (Nat.le_of_lt t.isLt) h0).1]

/-- The body at a point, on the windows' staging buffers. -/
theorem sound_body (c : Dev nD) (t : Fin cfg0.N) (Y : Vec F S1x16x384 .f32) (h : (rdat m c).Finds 2 t Y) :
    iprop(inv m c t.val ∗ owns (c : Thread nD τ) (st0_0 t) fullShare (blk0 m c t) ∗ owns (c : Thread nD τ) (st0_1 t) fullShare (blk1 m c t)
        ∗ owns (c : Thread nD τ) (st0_2 t) fullShare Y)
      ⊢ runs c (bodyAt0 t) (fun _ => iprop(inv m c (t.val + 1) ∗ owns (c : Thread nD τ) (st0_0 t) fullShare (blk0 m c t)
        ∗ owns (c : Thread nD τ) (st0_1 t) fullShare (blk1 m c t)
        ∗ (∃ s0, owns (c : Thread nD τ) (st0_2 t) fullShare (steps m c s0 (t.val + 1)).out))) := by
  unfold inv
  iintro ⟨⟨⟨%s0, Hc, Hv, Hf⟩, Hg⟩, H0, H1, H2⟩
  have key := body_step (F := F) (grid0.coords t) (blk0 m c t) (blk1 m c t) (st0_0 t) (hstage0_0 ((cfg0.slots t 0).cast nbuf0_0))
    (st0_1 t) (hstage0_1 ((cfg0.slots t 1).cast nbuf0_1)) (st0_2 t) (hstage0_2 ((cfg0.slots t 2).cast nbuf0_2))
    sc0 (Memref.isWhole_whole _) sc1 (Memref.isWhole_whole _) sc2 (Memref.isWhole_whole _) c (s := { steps m c s0 t.val with out := Y })
  rw [step_of_finds m c t s0 Y h] at key
  unfold held at key
  unfold runs at key ⊢
  iapply (wp_wand_r _ _ _)
  isplitl [H0 H1 H2 Hc Hv Hf]
  · iapply key $$ [H0 H1 H2 Hc Hv Hf]
    iframe
  iintro %u ⟨H0, H1, H2, Hc, Hv, Hf⟩
  isplitl [Hc Hv Hf Hg]
  · isplitl [Hc Hv Hf]
    · iexists s0
      iframe
    iexact Hg
  isplitl [H0]
  · iexact H0
  isplitl [H1]
  · iexact H1
  iexists s0
  iexact H2

/-- The body obligation of the pipeline. -/
theorem body_obligation (c : Dev nD) : (rdat m c).BodyObligation (defs₀ (F := F)) Variants.none () Set.univ := fun t Y hY => by
  have e0 := finds_0 m c t _ (hY 0)
  have e1 := finds_1 m c t _ (hY 1)
  have key := sound_body m c t (Y 2) (hY 2)
  unfold runs at key
  rw [bigSep_W0, defs₀_row]
  simp only [bigSep_W0]
  rw [e0, e1]
  rw [show (rdat m c).Φ t.castSucc = inv m c t.val from rfl, show (rdat m c).Φ t.succ = inv m c (t.val + 1) from rfl,
    show (rdat m c).owesAt () t.succ = (rdat m c).owesAt () t.castSucc from rfl]
  iintro ⟨Hi, Ho, H0, H1, H2⟩
  iapply (wp_wand_r _ _ _)
  isplitl [Hi H0 H1 H2]
  · iapply key $$ [Hi H0 H1 H2]
    iframe
  iintro %u ⟨Hi, H0, H1, %s0, H2⟩
  isplitl [Hi]
  · iexact Hi
  isplitl [Ho]
  · iexact Ho
  isplitl [H0]
  · iexists _
    isplitr
    · ipureintro; exact (after_0 m c t _ _).mpr rfl
    iexact H0
  isplitl [H1]
  · iexists _
    isplitr
    · ipureintro; exact (after_1 m c t _ _).mpr rfl
    iexact H1
  iexists _
  isplitr
  swap
  · iexact H2
  ipureintro; exact (after_2 m c t _ _).mpr ⟨s0, rfl⟩

/-! ## The launch -/

/-- What the launch hands the region, and takes back: the scratch buffers at anything. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- Each window's share is the whole. -/
theorem share_eq (c : Dev nD) (w : Fin cfg0.W) : (rdat m c).share w = fullShare := by
  unfold RDat.share; split <;> rfl

/-- The scratch buffers, whatever they hold, start the invariant. -/
theorem hin (c : Dev nD) : Pipeline.ΦA spec0 c ⊢ (rdat m c).Φ 0 := by
  rw [show (rdat m c).Φ 0 = inv m c 0 from rfl, PhiA_eq]
  unfold inv steps
  iintro ⟨⟨⟨%d0, H0⟩, ⟨%d1, H1⟩, ⟨%d2, H2⟩⟩, Hg⟩
  isplitl [H0 H1 H2]
  · iexists (⟨fun _ => (FloatOps.ofBits .f32 0 : F .f32), d0, d1, d2⟩ : St F)
    iframe
  iexact Hg

/-- The invariant gives the scratch buffers back at the end. -/
theorem hout (c : Dev nD) : (rdat m c).Φ (Fin.last cfg0.N) ⊢ Pipeline.ΦA spec0 c := by
  rw [show (rdat m c).Φ (Fin.last cfg0.N) = inv m c cfg0.N from rfl, PhiA_eq]
  unfold inv
  iintro ⟨⟨%s0, H0, H1, H2⟩, Hg⟩
  isplitl [H0 H1 H2]
  · isplitl [H0]
    · iexists _; iexact H0
    isplitl [H1]
    · iexists _; iexact H1
    iexists _; iexact H2
  iexact Hg

set_option backward.isDefEq.respectTransparency.types false in
/-- The run: every array of the pipeline ends at something its proof data name, every other buffer as the region found it, and
    every counter at nought. -/
theorem run_all : θ_run defs (onTc (τ := τ) (main (F := F))) (s₀ m ρ) (fun r => RDat.FramePost cfg0 (rdat m) (V m) r ∧ r.2.sem = fun _ => 0) :=
  Pipeline.RDat.θ_run_frame_track (Q' := _) cfgs (0 : Fin 1) launch0 defs₀ Variants.none (rdat m) m ρ main
    (hbody := body_obligation m) (hshare := fun c w => share_eq m c w)
    (howed := fun _ _ => rfl) (V := V m) (hmain := hmain m Variants.none) (hA := A_eq m) (hin := hin m) (hout := hout m)

/-- The argument arrays end unchanged. -/
theorem args_kept {r : PUnit × MemSt nD τ sig (Elt F)} (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (V_main_arg0 m c),
    (h.arr_in c 0 rfl).trans ((A_eq m c 0).trans (V_main_arg1 m c))⟩

/-- The frame, at any values: the program runs from any memory, ends with its counters at nought and its arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨args_kept m h.1, h.2⟩) (run_all m ρ)

end Cert.KernelIdeal.Run

end
-- ==== Proof.KernelIdeal.Out.lean ====
/-
  The output array after the run: a function `G` whose blocks are what the last step of each batch leaves, whatever the buffers
  held at the start.
-/
module

public import proofs.«01_k».proof.Proof.KernelIdeal.Run
public import Idealize.ShloMosaic.Lib.Pipeline.ValueKit

@[expose] public section

set_option maxRecDepth 16384

noncomputable section

namespace Cert.KernelIdeal.Run

open Idealize.ShloMosaic Idealize.ShloMosaic.TcCoe Idealize.ShloMosaic.Tactic
open Idealize.SL Idealize.SL.Sem
open Idealize.ShloMosaic.Pipeline (RDat Dat Cfg Window)
open Cert.KernelIdeal Cert.KernelIdeal.Gen

variable {F : FTy → Type} [FloatOps F]
variable (m : (ℓ : Loc nD τ sig) → Buf (Elt F) ℓ)

/-- The result's array at the end, from the blocks written. -/
theorem result_eq {r : PUnit × MemSt nD τ sig (Elt F)} (h : RDat.FramePost cfg0 (rdat m) (V m) r) (c : Dev nD)
    (G : Buf (Elt F) ((c.tc : Thread nD τ).loc main_v2))
    (hG : ∀ t : Fin cfg0.N, t.val % 4 = 3 → ∀ s0 (y : S1x16x384.Idx), (steps m c s0 (t.val + 1)).out y = G (((cfg0.win 2).blk t).view.emb y)) :
    r.2.mem ((c.tc : Thread nD τ).loc main_v2) = G := by
  haveI : ∀ e : EltTy, Nonempty (Elt F e) := fun e => inferInstance
  obtain ⟨after, hL, hA⟩ := h.exists_exact c
  refine (hA 2).trans (((rdat m c).withAfter after).arrAt_eq_of_covers 2 G (by decide +kernel) fun t hf y => ?_)
  obtain ⟨Y, -, hX⟩ := hL 2 t hf
  obtain ⟨s0, e⟩ := (after_2 m c t _ _).mp hX
  have e' : ((rdat m c).withAfter after).after 2 t = after 2 t := rfl
  have hy := hG t ((flush0_2 t).mp hf) s0
  blk_simp
  rw [e', e]
  exact hy y

/-- The run, with the output array named. -/
theorem run_out (ρ : Dev nD → PrngReg) (G : (c : Dev nD) → Buf (Elt F) ((c.tc : Thread nD τ).loc main_v2))
    (hG : ∀ c, ∀ t : Fin cfg0.N, t.val % 4 = 3 → ∀ s0 (y : S1x16x384.Idx), (steps m c s0 (t.val + 1)).out y = G c (((cfg0.win 2).blk t).view.emb y)) :
    θ_run defs (onTc (τ := τ) (main (F := F))) ⟨m, fun _ => 0, ρ⟩ (fun r => ∀ c : Dev nD,
      r.2.mem ((c.tc : Thread nD τ).loc main_v2) = G c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨result_eq m h.1 c (G c) (hG c), args_kept m h.1 c⟩) (run_all m ρ)

end Cert.KernelIdeal.Run

end
-- ==== Proof.Spec.lean ====
/-
The value both programs leave, for one scribble and one channel: `S p` is the sum of four scribble pixels at place `p` of the
feature grid and `X p` the feature there. The places where `S` passes 2 are averaged; where there is none, the result is the
feature at the first place of the largest `S`.
-/
module

public import Idealize.ShloMosaic.Lib.Pointwise

@[expose] public section

noncomputable section

namespace Cert.Spec

open Idealize.ShloMosaic

/-- Whether a place is selected. -/
def sel (s : EReal) : EReal := if 2 < s then 1 else 0

/-- How many of the first `N` places are selected. -/
def count (S : ℕ → EReal) (N : ℕ) : EReal := ∑ p ∈ Finset.range N, sel (S p)

/-- The sum of the features at those places. -/
def total (S X : ℕ → EReal) (N : ℕ) : EReal := ∑ p ∈ Finset.range N, sel (S p) * X p

/-- `p` is the first of the first `N` places at which `S` is largest. -/
structure First (S : ℕ → EReal) (N p : ℕ) : Prop where
  lt : p < N
  le : ∀ r < N, S r ≤ S p
  first : ∀ r < p, S r < S p

/-- The first place of the largest value. -/
def place (S : ℕ → EReal) : ℕ := Classical.epsilon (First S 16384)

/-- The mean over the selected places, or the feature at the first place of the largest value. -/
def result (S X : ℕ → EReal) : EReal :=
  if 0 < count S 16384 then Ideal.div (total S X 16384) (count S 16384) else X (place S)

/-- The sum of the four middle pixels of the 4×4 patch at place `p`, for scribble `q` of batch `b`. -/
def sums (a : FVec Ideal ⟨4, ![4, 16, 512, 512]⟩ .f32) (b : Fin 4) (q : Fin 16) (p : ℕ) : EReal :=
  (a (ix4 b q ⟨(4 * (p / 128) + 1) % 512, by omega⟩ ⟨4 * (p % 128) + 1, by omega⟩)
      + a (ix4 b q ⟨(4 * (p / 128) + 2) % 512, by omega⟩ ⟨4 * (p % 128) + 1, by omega⟩))
    + (a (ix4 b q ⟨(4 * (p / 128) + 1) % 512, by omega⟩ ⟨4 * (p % 128) + 2, by omega⟩)
      + a (ix4 b q ⟨(4 * (p / 128) + 2) % 512, by omega⟩ ⟨4 * (p % 128) + 2, by omega⟩))

/-- The feature at place `p`, for channel `c` of batch `b`. -/
def feats (f : FVec Ideal ⟨5, ![1, 4, 384, 128, 128]⟩ .f32) (b : Fin 4) (c : Fin 384) (p : ℕ) : EReal :=
  f (ix5 0 b c ⟨p / 128 % 128, by omega⟩ ⟨p % 128, by omega⟩)

/-- The whole result as a function of the two arguments. -/
def out (f : FVec Ideal ⟨5, ![1, 4, 384, 128, 128]⟩ .f32) (a : FVec Ideal ⟨4, ![4, 16, 512, 512]⟩ .f32) :
    FVec Ideal ⟨3, ![4, 16, 384]⟩ .f32 :=
  fun y => result (sums a (y 0) (y 1)) (feats f (y 0) (y 2))

/-- Sums of scribbles that are not negative are not negative. -/
theorem sums_nonneg {a : FVec Ideal ⟨4, ![4, 16, 512, 512]⟩ .f32} (h : ∀ y, 0 ≤ a y) (b : Fin 4) (q : Fin 16) (p : ℕ) :
    0 ≤ sums a b q p := add_nonneg (add_nonneg (h _) (h _)) (add_nonneg (h _) (h _))

/-- A place counts zero or one, so never less than zero. -/
theorem sel_nonneg (s : EReal) : 0 ≤ sel s := by
  unfold sel; split
  · exact zero_le_one
  · exact le_rfl

/-- A count of selected places is not negative. -/
theorem count_nonneg (S : ℕ → EReal) (N : ℕ) : 0 ≤ count S N := Finset.sum_nonneg fun _ _ => sel_nonneg _

/-- The count over two stretches of places is the sum of their counts. -/
theorem count_add (S : ℕ → EReal) (N K : ℕ) : count S (N + K) = count S N + ∑ p : Fin K, sel (S (N + p.val)) := by
  unfold count; rw [Finset.sum_range_add, Finset.sum_range fun x => sel (S (N + x))]

/-- The total over two stretches of places is the sum of their totals. -/
theorem total_add (S X : ℕ → EReal) (N K : ℕ) :
    total S X (N + K) = total S X N + ∑ p : Fin K, sel (S (N + p.val)) * X (N + p.val) := by
  unfold total; rw [Finset.sum_range_add, Finset.sum_range fun x => sel (S (N + x)) * X (N + x)]

/-- Fewer places, no more selected. -/
theorem count_le (S : ℕ → EReal) (N K : ℕ) : count S N ≤ count S (N + K) := by
  rw [count_add]
  exact le_add_of_nonneg_right (Finset.sum_nonneg fun _ _ => sel_nonneg _)

/-- The first place of the largest value is one place. -/
theorem First.unique {S : ℕ → EReal} {N p p' : ℕ} (h : First S N p) (h' : First S N p') : p = p' := by
  rcases lt_trichotomy p p' with hl | he | hl
  · exact absurd (h'.first p hl) (not_lt.2 (h.le p' h'.lt))
  · exact he
  · exact absurd (h.first p' hl) (not_lt.2 (h'.le p h.lt))

/-- The first place over one more stretch of places: that of the stretch only if its value is larger. -/
theorem First.append {S : ℕ → EReal} {N K p r : ℕ} (h : First S N p) (h' : First (fun x => S (N + x)) K r) :
    First S (N + K) (if S p < S (N + r) then N + r else p) := by
  have hp := h.lt
  have hr := h'.lt
  have hle : ∀ x < N + K, x < N ∨ ∃ y < K, x = N + y := fun x hx => by
    by_cases hN : x < N
    · exact .inl hN
    · exact .inr ⟨x - N, by omega, by omega⟩
  split
  · rename_i hlt
    refine ⟨by omega, fun x hx => ?_, fun x hx => ?_⟩
    · rcases hle x hx with hN | ⟨y, hy, rfl⟩
      · exact (h.le x hN).trans hlt.le
      · exact h'.le y hy
    · rcases hle x (by omega) with hN | ⟨y, hy, rfl⟩
      · exact (h.le x hN).trans_lt hlt
      · exact h'.first y (by omega)
  · rename_i hlt
    refine ⟨by omega, fun x hx => ?_, h.first⟩
    rcases hle x hx with hN | ⟨y, hy, rfl⟩
    · exact h.le x hN
    · exact (h'.le y hy).trans (not_lt.1 hlt)

/-- Among at least one place there is a first one of the largest value. -/
theorem exists_first (S : ℕ → EReal) : ∀ N, 0 < N → ∃ p, First S N p
  | 0, h => absurd h (lt_irrefl _)
  | 1, _ => ⟨0, by omega, fun r hr => by rw [show r = 0 by omega], fun r hr => absurd hr (by omega)⟩
  | N + 2, _ => by
    obtain ⟨p, h⟩ := exists_first S (N + 1) (by omega)
    exact ⟨_, h.append (K := 1) (r := 0) ⟨by omega, fun r hr => by rw [show r = 0 by omega], fun r hr => absurd hr (by omega)⟩⟩

/-- The place chosen is the first one of the largest value among all. -/
theorem place_first (S : ℕ → EReal) : First S 16384 (place S) := Classical.epsilon_spec (exists_first S _ (by omega))

/-- A place that is the first of the largest value among all is the one chosen. -/
theorem place_eq {S : ℕ → EReal} {p : ℕ} (h : First S 16384 p) : place S = p := (place_first S).unique h

end Cert.Spec

end
-- ==== Proof.Word.lean ====
/-
The float constants of both programs as extended reals.
-/
module

public import Idealize.ShloMosaic.Lib.Pointwise
public import Idealize.ShloMosaic.Lib.IdealHost

@[expose] public section

noncomputable section

namespace Cert.Word

open Idealize.ShloMosaic

/-- The word of 2. -/
theorem two : Ideal.ofBits .f32 0x40000000#32 = ((2 : ℝ) : EReal) := by
  simp [Ideal.ofBits, Ideal.ieee]; rw [← EReal.coe_mul]; norm_num
/-- The word of 4. -/
theorem four : Ideal.ofBits .f32 0x40800000#32 = ((4 : ℝ) : EReal) := by
  simp [Ideal.ofBits, Ideal.ieee]; rw [← EReal.coe_mul]; norm_num
/-- The word of a half. -/
theorem half : Ideal.ofBits .f32 0x3F000000#32 = ((1 / 2 : ℝ) : EReal) := by
  simp [Ideal.ofBits, Ideal.ieee]; rw [← EReal.coe_mul]; norm_num
/-- The word of -1. -/
theorem minus_one : Ideal.ofBits .f32 0xBF800000#32 = ((-1 : ℝ) : EReal) := by
  simp [Ideal.ofBits, Ideal.ieee]; rw [← EReal.coe_mul]; norm_num
/-- The word of -1/2. -/
theorem minus_half : Ideal.ofBits .f32 0xBF000000#32 = ((-(1 / 2) : ℝ) : EReal) := by
  simp [Ideal.ofBits, Ideal.ieee]; rw [← EReal.coe_mul]; norm_num
/-- The word of 511.5. -/
theorem last : Ideal.ofBits .f32 0x43FFC000#32 = ((1023 / 2 : ℝ) : EReal) := by
  simp [Ideal.ofBits, Ideal.ieee]; rw [← EReal.coe_mul]; norm_num
/-- The word of the resize's threshold. -/
theorem tiny : Ideal.ofBits .f32 0x38FA0000#32 = ((125 / 1048576 : ℝ) : EReal) := by
  simp [Ideal.ofBits, Ideal.ieee]; rw [← EReal.coe_mul]; norm_num
/-- The word of minus infinity. -/
theorem bottom : Ideal.ofBits .f32 0xFF800000#32 = ⊥ := by simp [Ideal.ofBits, Ideal.ieee]
/-- The word of infinity. -/
theorem top : Ideal.ofBits .f32 0x7F800000#32 = ⊤ := by simp [Ideal.ofBits, Ideal.ieee]

/-- A condition turned into a float. -/
theorem gate (b : Bool) : FloatOps.sitofp (F := Ideal) .f32 (BitVec.setWidth 32 (BitVec.ofBool b)) = if b then 1 else 0 := by
  show (((BitVec.setWidth 32 (BitVec.ofBool b)).toInt : ℝ) : EReal) = _
  cases b <;> simp

/-- The least of a family of signed words, when one of them is it. -/
theorem fold_minsi {ι : Type} [Fintype ι] (z w : BitVec 32) (f : ι → BitVec 32) (hz : w.toInt ≤ z.toInt)
    (h : ∀ x, w.toInt ≤ (f x).toInt) (hx : ∃ x, f x = w) : Finset.fold IntOp.minsi z f Finset.univ = w := by
  classical
  have key : ∀ s : Finset ι, w.toInt ≤ (Finset.fold IntOp.minsi z f s).toInt
      ∧ ∀ x ∈ s, (Finset.fold IntOp.minsi z f s).toInt ≤ (f x).toInt := by
    intro s
    induction s using Finset.induction_on with
    | empty => simpa using hz
    | insert a s ha ih =>
      rw [Finset.fold_insert ha]
      unfold IntOp.minsi
      have ha' := h a
      split
      · rename_i hlt
        rw [BitVec.slt_iff_toInt_lt] at hlt
        refine ⟨ha', fun x hx => ?_⟩
        rcases Finset.mem_insert.1 hx with rfl | hx
        · exact le_rfl
        · exact hlt.le.trans (ih.2 x hx)
      · rename_i hlt
        rw [BitVec.slt_iff_toInt_lt, not_lt] at hlt
        refine ⟨ih.1, fun x hx => ?_⟩
        rcases Finset.mem_insert.1 hx with rfl | hx
        · exact hlt
        · exact ih.2 x hx
  obtain ⟨x, hx⟩ := hx
  have k := key Finset.univ
  exact BitVec.eq_of_toInt_eq (le_antisymm (hx ▸ k.2 x (Finset.mem_univ x)) k.1)

end Cert.Word

end
-- ==== Proof.KernelIdeal.Pay.lean ====
/-
What one block computes, read at an index over the extended reals: the sum of four neighbours at each pixel of the
feature grid, the lanes that hold it, the selection mask, its sums against the features and its count.
-/
module

public import proofs.«01_k».proof.Proof.KernelIdeal.Body
public import proofs.«01_k».proof.Proof.Word
public import Idealize.ShloMosaic.Lib.Pointwise
public import Idealize.ShloMosaic.Lib.ValueIdx

@[expose] public section

set_option maxRecDepth 16384

noncomputable section

namespace Cert.KernelIdeal.Run

open Idealize.ShloMosaic Idealize.ShloMosaic.TcCoe Idealize.ShloMosaic.Tactic
open Cert.KernelIdeal Cert.KernelIdeal.Gen

/-- The lane that holds column `j` of the feature grid. -/
def lane (j : Fin 128) : Fin 512 := ⟨4 * j.val + 1, by omega⟩

/-- The sum of the four scribble pixels in the middle of the 4×4 patch at row `h`, column `j` of the block. -/
def four (x : FVec Ideal S1x16x128x512 .f32) (q : Fin 16) (h : Fin 32) (j : Fin 128) : EReal :=
  (x (ix4 0 q ⟨4 * h.val + 1, by omega⟩ ⟨4 * j.val + 1, by omega⟩) + x (ix4 0 q ⟨4 * h.val + 2, by omega⟩ ⟨4 * j.val + 1, by omega⟩))
    + (x (ix4 0 q ⟨4 * h.val + 1, by omega⟩ ⟨4 * j.val + 2, by omega⟩) + x (ix4 0 q ⟨4 * h.val + 2, by omega⟩ ⟨4 * j.val + 2, by omega⟩))

/-- At the lane of a column, the neighbour sum is that of its patch. -/
theorem pay18_at (x : FVec Ideal S1x16x128x512 .f32) (q : Fin 16) (h : Fin 32) (j : Fin 128) :
    k0_pay18 (F := Ideal) x (ix3 q h (lane j)) = four x q h j := by
  unfold lane four
  pointwise [k0_pay18]
  rw [dif_pos (by omega)]
  congr 1 <;> congr 1 <;> congr 2 <;> ext <;> dsimp only <;> omega

/-- The valid lanes are those that leave 1 when divided by 4. -/
theorem pay19_at (q : Fin 16) (h : Fin 32) (l : Fin 512) :
    k0_pay19 (ix3 q h l) = 1#1 ↔ l.val % 4 = 1 := by
  pointwise [k0_pay19]
  have hl := l.isLt
  generalize l.val = n at hl ⊢
  clear l
  revert n
  decide +kernel

/-- The mask at the lane of a column. -/
theorem pay20_at (x : FVec Ideal S1x16x128x512 .f32) (q : Fin 16) (h : Fin 32) (j : Fin 128) :
    k0_pay20 (F := Ideal) x (ix3 q h (lane j)) = if 2 < four x q h j then 1 else 0 := by
  have e := (pay19_at q h (lane j)).mpr (by unfold lane; dsimp only; omega)
  pointwise [k0_pay20]
  rw [e, pay18_at, Word.two]
  by_cases h2 : ((2 : ℝ) : EReal) < four x q h j
  · rw [if_pos (show (2 : EReal) < _ from h2), decide_eq_true h2]; rfl
  · rw [if_neg (show ¬ (2 : EReal) < _ from h2), decide_eq_false h2]; rfl

/-- The column of the gather matrix at a column of the feature grid: 1 at its lane, 0 at every other. -/
theorem lane_word (j : Fin 128) (l : Fin 512) :
    (l = lane j → FloatOps.sitofp (F := Ideal) .f32 (BitVec.setWidth 32 (IntOp.cmpi .eq (BitVec.ofNat 32 l.val)
      (IntOp.addi (IntOp.muli 4#32 (BitVec.ofNat 32 j.val)) 1#32))) = 1)
    ∧ (l ≠ lane j → FloatOps.sitofp (F := Ideal) .f32 (BitVec.setWidth 32 (IntOp.cmpi .eq (BitVec.ofNat 32 l.val)
      (IntOp.addi (IntOp.muli 4#32 (BitVec.ofNat 32 j.val)) 1#32))) = 0) := by
  have e : IntOp.addi (IntOp.muli 4#32 (BitVec.ofNat 32 j.val)) 1#32 = BitVec.ofNat 32 (4 * j.val + 1) := by
    apply BitVec.eq_of_toNat_eq
    simp [IntOp.addi, IntOp.muli]
  rw [e]
  constructor
  · rintro rfl
    rw [IntOp.cmpi, Word.gate]
    simp [lane]
  · intro h
    have : BitVec.ofNat 32 l.val ≠ BitVec.ofNat 32 (4 * j.val + 1) := by
      intro h'
      apply h
      have := congrArg BitVec.toNat h'
      rw [BitVec.toNat_ofNat, BitVec.toNat_ofNat, Nat.mod_eq_of_lt (by omega), Nat.mod_eq_of_lt (by omega)] at this
      exact Fin.ext this
    rw [IntOp.cmpi, Word.gate]
    simp [this]

/-- A mask row gathered: place `p` of the block takes the lane of its column in its row. -/
theorem pay1_at (y : FVec Ideal S16x32x512 .f32) (q : Fin 16) (p : Fin 4096) :
    k0_pay1 (F := Ideal) y rows k0_pay21 k0_pay22 (ix2 q p)
      = y (ix3 q ⟨p.val / 128, by omega⟩ (lane ⟨p.val % 128, by omega⟩)) := by
  pointwise [k0_pay1, rows, k0_pay21, k0_pay22]
  rw [Finset.sum_eq_single (lane ⟨p.val % 128, by omega⟩)]
  · rw [(lane_word _ _).1 rfl, mul_one]
    congr 2
    ext
    dsimp only
    omega
  · intro l _ hl
    rw [(lane_word ⟨p.val % 128, by omega⟩ l).2 hl, mul_zero]
  · intro h; exact absurd (Finset.mem_univ _) h

/-- After a first block the output holds the block's selected features, added up. -/
theorem pay5_at (y : FVec Ideal S16x32x512 .f32) (x : FVec Ideal S1x384x4096 .f32) (q : Fin 16) (c : Fin 384) :
    k0_pay5 (F := Ideal) y rows k0_pay21 k0_pay22 x (ix3 0 q c)
    = ∑ p : Fin 4096, k0_pay1 y rows k0_pay21 k0_pay22 (ix2 q p) * x (ix3 0 c p) := by
  pointwise [k0_pay5, k0_pay3, k0_pay2]

/-- After a later block it holds them added to what was there. -/
theorem pay7_at (y : FVec Ideal S16x32x512 .f32) (x : FVec Ideal S1x384x4096 .f32) (o : FVec Ideal S1x16x384 .f32) (q : Fin 16) (c : Fin 384) :
    k0_pay7 (F := Ideal) y rows k0_pay21 k0_pay22 x o (ix3 0 q c)
    = o (ix3 0 q c) + ∑ p : Fin 4096, k0_pay1 y rows k0_pay21 k0_pay22 (ix2 q p) * x (ix3 0 c p) := by
  pointwise [k0_pay7, k0_pay3, k0_pay2]

/-- After a first block the counter holds how many of the block's places are selected. -/
theorem pay6_at (y : FVec Ideal S16x32x512 .f32)  (q : Fin 16)  :
    k0_pay6 (F := Ideal) y rows k0_pay21 k0_pay22 (ix2 q 0) = ∑ p : Fin 4096, k0_pay1 y rows k0_pay21 k0_pay22 (ix2 q p) := by
  pointwise [k0_pay6, k0_pay4]

/-- After a later block it holds that number added to what was there. -/
theorem pay8_at (y : FVec Ideal S16x32x512 .f32) (n : FVec Ideal S16x1 .f32) (q : Fin 16)  :
    k0_pay8 (F := Ideal) y rows k0_pay21 k0_pay22 n (ix2 q 0) = n (ix2 q 0) + ∑ p : Fin 4096, k0_pay1 y rows k0_pay21 k0_pay22 (ix2 q p) := by
  pointwise [k0_pay8, k0_pay4]

/-- The fallback is taken when some query's count is at most zero. -/
theorem low_iff (n : FVec Ideal S16x1 .f32)   :
    low (F := Ideal) n = 1#1 ↔ ∃ q : Fin 16, n (ix2 q 0) ≤ 0 := by
  pointwise [low, k0_pay9]
  have h : Finset.fold min (Ideal.ofBits FTy.f32 2139095040#32) (fun x : Fin 16 × Fin 1 => n (ix2 x.1 0)) Finset.univ ≤ 0
      ↔ ∃ q : Fin 16, n (ix2 q 0) ≤ 0 := by
    rw [Finset.fold_min_le, Word.top]
    constructor
    · rintro (h | ⟨x, -, h⟩)
      · exact absurd h (by simp)
      · exact ⟨x.1, h⟩
    · rintro ⟨q, h⟩
      exact .inr ⟨(q, 0), Finset.mem_univ _, h⟩
  rw [← h]
  generalize Finset.fold min (Ideal.ofBits FTy.f32 2139095040#32) (fun x : Fin 16 × Fin 1 => n (ix2 x.1 0)) Finset.univ = e
  by_cases he : e ≤ 0
  · rw [decide_eq_true he]; simp [he]; decide
  · rw [decide_eq_false he]; simp [he]; decide

/-- At the end a query with a positive count gets its mean, another one its fallback feature. -/
theorem pay17_at (a : FVec Ideal S16x1 .f32) (b : FVec Ideal S1x16x384 .f32)   (d : FVec Ideal S16x384 .f32)  (q : Fin 16) (c : Fin 384) :
    k0_pay17 (F := Ideal) a b d (ix3 0 q c) = if 0 < a (ix2 q 0) then Ideal.div (b (ix3 0 q c)) (a (ix2 q 0)) else d (ix2 q c) := by
  pointwise [k0_pay17]

/-- A word below 2³² is the number written. -/
theorem place_word (n h j : Nat) (hn : n < 4) (hh : h < 32) (hj : j < 128) :
    IntOp.addi (IntOp.muli (IntOp.addi (Scalar.muli (BitVec.ofNat 32 n) 32#32) (BitVec.ofNat 32 h)) 128#32)
      (IntOp.shrui .vector (IntOp.subi (BitVec.ofNat 32 (4 * j + 1)) 1#32) 2#32) = BitVec.ofNat 32 (4096 * n + (128 * h + j)) := by
  have e : IntOp.shrui .vector (IntOp.subi (BitVec.ofNat 32 (4 * j + 1)) 1#32) 2#32 = BitVec.ofNat 32 j := by
    revert j
    decide +kernel
  rw [e]
  apply BitVec.eq_of_toNat_eq
  simp [IntOp.addi, IntOp.muli, Scalar.muli]
  omega

/-- The word of a place of a block is the place's number in the whole map. -/
theorem block_word (n p : Nat) (hn : n < 4) :
    IntOp.addi (BitVec.ofNat 32 p) (Scalar.muli (BitVec.ofNat 32 n) 4096#32) = BitVec.ofNat 32 (4096 * n + p) := by
  apply BitVec.eq_of_toNat_eq
  simp [IntOp.addi, IntOp.muli, Scalar.muli]
  omega

/-- The word of a small number, read with its sign, is that number. -/
theorem toInt_word (n : Nat) (h : n < 2 ^ 31) : (BitVec.ofNat 32 n).toInt = n := by
  rw [BitVec.toInt_eq_toNat_cond, BitVec.toNat_ofNat, Nat.mod_eq_of_lt (by omega), if_pos (by omega)]

/-- A choice on a mask bit and a decided condition. -/
theorem pick {P : Prop} [Decidable P] (b : BitVec 1) (u w : BitVec 32) :
    Scalar.select (IntOp.andi b (BitVec.ofBool (decide P))) u w = if b = 1#1 ∧ P then u else w := by
  rcases (show b = 0#1 ∨ b = 1#1 by revert b; decide) with rfl | rfl <;> by_cases hP : P <;>
    simp [Scalar.select, IntOp.andi, hP]

/-- The four-pixel sum at place `p` of the block. -/
def sum4 (x : FVec Ideal S1x16x128x512 .f32) (q : Fin 16) (p : Fin 4096) : EReal :=
  four x q ⟨p.val / 128, by omega⟩ ⟨p.val % 128, by omega⟩

/-- The sum at a row and a column is the one at their place. -/
theorem four_eq (x : FVec Ideal S1x16x128x512 .f32) (q : Fin 16) (h : Fin 32) (j : Fin 128) :
    four x q h j = sum4 x q ⟨128 * h.val + j.val, by omega⟩ := by
  unfold sum4; congr 1 <;> ext <;> dsimp only <;> omega

/-- A valid lane is that of a column. -/
theorem lane_of (l : Fin 512) (h : l.val % 4 = 1) : l = lane ⟨l.val / 4, by omega⟩ := by
  unfold lane; ext; dsimp only; omega

/-- The block's largest value, at a place that holds it. -/
theorem pay10_at (x : FVec Ideal S1x16x128x512 .f32) (q : Fin 16) (p : Fin 4096) (h0 : ∀ p, 0 ≤ sum4 x q p)
    (hp : ∀ r, sum4 x q r ≤ sum4 x q p) : k0_pay10 (F := Ideal) (k0_pay18 x) k0_pay19 (ix2 q 0) = sum4 x q p := by
  have hj : ∀ h j, four x q h j ≤ sum4 x q p ∧ 0 ≤ four x q h j := by
    intro h j
    rw [four_eq]; exact ⟨hp _, h0 _⟩
  have h19 := pay19_at q
  generalize k0_pay19 = v at h19 ⊢
  have h18 := pay18_at x q
  generalize k0_pay18 (F := Ideal) x = y at h18 ⊢
  pointwise [k0_pay10]
  rw [Word.bottom, Word.minus_one]
  apply le_antisymm
  · rw [Finset.fold_max_le]
    refine ⟨bot_le, fun z _ => ?_⟩
    by_cases hv : v (ix3 q z.1 z.2) = 1#1
    · rw [hv, lane_of z.2 ((h19 _ _).1 hv), h18]
      exact (hj _ _).1
    · rw [Scalar.select, if_neg (show ¬ v (ix3 q z.1 z.2) = 1 from hv)]
      exact le_trans (by rw [← EReal.coe_zero, EReal.coe_le_coe_iff]; norm_num) (h0 p)
  · rw [Finset.le_fold_max]
    refine .inr ⟨(⟨p.val / 128, by omega⟩, lane ⟨p.val % 128, by omega⟩), Finset.mem_univ _, ?_⟩
    dsimp only
    rw [(h19 _ _).2 (by unfold lane; dsimp only; omega), h18]
    exact le_rfl

/-- The features at the first place of the block's largest value. -/
theorem pay11_at (n : Nat) (hn : n < 4) (x : FVec Ideal S1x16x128x512 .f32) (f : FVec Ideal S1x384x4096 .f32) (q : Fin 16)
    (c : Fin 384) (p : Fin 4096) (h0 : ∀ p, 0 ≤ sum4 x q p)
    (hp : ∀ r, sum4 x q r ≤ sum4 x q p) (hf : ∀ r < p, sum4 x q r < sum4 x q p) :
    k0_pay11 (F := Ideal) (BitVec.ofNat 32 n) (k0_pay18 x) lanes k0_pay19 f (ix2 q c) = f (ix3 0 c p) := by
  have h10 := pay10_at x q p h0 hp
  have hj : ∀ h j, four x q h j = sum4 x q ⟨128 * h.val + j.val, by omega⟩ := four_eq x q
  have h19 := pay19_at q
  generalize k0_pay19 = v at h19 h10 ⊢
  have h18 := pay18_at x q
  generalize k0_pay18 (F := Ideal) x = y at h18 h10 ⊢
  unfold k0_pay11
  generalize k0_pay10 (F := Ideal) y v = M at h10 ⊢
  pointwise [k0_pay2, lanes]
  rw [Word.fold_minsi _ (BitVec.ofNat 32 (4096 * n + p.val))]
  · rw [Finset.sum_eq_single p]
    · rw [IntOp.cmpi, Word.gate, block_word n p.val hn, beq_self_eq_true, if_pos rfl, one_mul]
    · intro r _ hr
      rw [IntOp.cmpi, Word.gate, block_word n r.val hn, beq_eq_false_iff_ne.2, if_neg Bool.false_ne_true, zero_mul]
      intro h
      apply hr
      have h := congrArg BitVec.toNat h
      rw [BitVec.toNat_ofNat, BitVec.toNat_ofNat, Nat.mod_eq_of_lt (by omega), Nat.mod_eq_of_lt (by omega)] at h
      exact Fin.ext (by omega)
    · intro h; exact absurd (Finset.mem_univ _) h
  · rw [toInt_word _ (by omega)]
    exact le_trans (Int.ofNat_le.2 (show 4096 * n + p.val ≤ 2147483647 by omega)) (by decide)
  · intro z
    rw [toInt_word _ (by omega)]
    refine le_of_le_of_eq ?_ (congrArg BitVec.toInt (pick _ _ _)).symm
    split
    · rename_i h
      have hz := lane_of z.2 ((h19 _ _).1 h.1)
      have he : y (ix3 q z.1 z.2) = sum4 x q p := h.2.trans h10
      have hle : p.val ≤ 128 * z.1.val + z.2.val / 4 := by
        by_contra hlt
        rw [hz, h18, hj] at he
        exact absurd he (ne_of_lt (hf _ (by rw [Fin.lt_def]; dsimp only; omega)))
      have e : z.2.val = 4 * (z.2.val / 4) + 1 := congrArg Fin.val hz
      rw [e, place_word n z.1.val (z.2.val / 4) hn z.1.isLt (by omega), toInt_word _ (by omega)]
      omega
    · exact le_trans (Int.ofNat_le.2 (show 4096 * n + p.val ≤ 2147483647 by omega)) (by decide)
  · refine ⟨(⟨p.val / 128, by omega⟩, lane ⟨p.val % 128, by omega⟩), (pick _ _ _).trans ?_⟩
    refine (if_pos ⟨(h19 _ _).2 (by unfold lane; dsimp only; omega), (h18 _ _).trans h10.symm⟩).trans ?_
    refine (place_word n (p.val / 128) (p.val % 128) hn (by omega) (by omega)).trans ?_
    congr 1
    omega

/-- What the fallback leaves at the first block. -/
theorem pay12_at (y : FVec Ideal S16x32x512 .f32) (v : IVec S16x32x512 1) (q : Fin 16) :
    k0_pay12 (F := Ideal) y v (ix2 q 0) = k0_pay10 y v (ix2 q 0) := by
  pointwise [k0_pay12]

/-- The fallback leaves the features of the block's chosen place at a first block. -/
theorem pay13_at (w : BitVec 32) (y : FVec Ideal S16x32x512 .f32) (v : IVec S16x32x512 1) (f : FVec Ideal S1x384x4096 .f32)
    (q : Fin 16) (c : Fin 384) : k0_pay13 (F := Ideal) w y lanes v f (ix2 q c) = k0_pay11 w y lanes v f (ix2 q c) := by
  pointwise [k0_pay13]

/-- What the fallback leaves at a later block: this block's, where its largest value is the larger. -/
theorem pay15_at (y : FVec Ideal S16x32x512 .f32) (v : IVec S16x32x512 1) (b : FVec Ideal S16x1 .f32) (q : Fin 16) :
    k0_pay15 (F := Ideal) y v b b (ix2 q 0)
      = if b (ix2 q 0) < k0_pay10 y v (ix2 q 0) then k0_pay10 y v (ix2 q 0) else b (ix2 q 0) := by
  unfold k0_pay15 k0_pay14
  generalize k0_pay10 (F := Ideal) y v = M
  pointwise []

/-- At a later block it leaves this block's features where its largest value is the larger, and the earlier ones elsewhere. -/
theorem pay16_at (w : BitVec 32) (y : FVec Ideal S16x32x512 .f32) (v : IVec S16x32x512 1) (f : FVec Ideal S1x384x4096 .f32)
    (b : FVec Ideal S16x1 .f32) (d : FVec Ideal S16x384 .f32) (q : Fin 16) (c : Fin 384) :
    k0_pay16 (F := Ideal) w y lanes v f b d (ix2 q c)
      = if b (ix2 q 0) < k0_pay10 y v (ix2 q 0) then k0_pay11 w y lanes v f (ix2 q c) else d (ix2 q c) := by
  unfold k0_pay16 k0_pay14
  generalize k0_pay10 (F := Ideal) y v = M
  generalize k0_pay11 (F := Ideal) w y lanes v f = N
  pointwise []

end Cert.KernelIdeal.Run

end
-- ==== Proof.KernelIdeal.Fold.lean ====
/-
The buffers after each block of a batch, over the extended reals: the partial sums and counts are those of the places seen so far,
and where nothing is selected yet the fallback buffers hold the first place of the largest value and its features.
-/
module

public import proofs.«01_k».proof.Proof.Spec
public import proofs.«01_k».proof.Proof.KernelIdeal.Pay
public import proofs.«01_k».proof.Proof.KernelIdeal.Run

@[expose] public section

set_option maxRecDepth 16384

noncomputable section

namespace Cert.KernelIdeal.Run

open Idealize.ShloMosaic Idealize.ShloMosaic.TcCoe Idealize.ShloMosaic.Tactic
open Cert.KernelIdeal Cert.KernelIdeal.Gen
open Cert.Spec

/-- The buffers after the first `N` places, for the four-pixel sums `S` and the features `X`. -/
structure Seen (S : Fin 16 → ℕ → EReal) (X : Fin 384 → ℕ → EReal) (N : ℕ) (s : St Ideal) : Prop where
  out : ∀ q c, s.out (ix3 0 q c) = total (S q) (X c) N
  cnt : ∀ q, s.cnt (ix2 q 0) = count (S q) N
  best : ∀ q, count (S q) N ≤ 0 → ∃ p, First (S q) N p ∧ s.bv (ix2 q 0) = S q p ∧ ∀ c, s.bf (ix2 q c) = X c p

/-- The two blocks at a point hold the places from `N` on. -/
structure Holds (S : Fin 16 → ℕ → EReal) (X : Fin 384 → ℕ → EReal) (N : ℕ) (x0 : FVec Ideal S1x16x128x512 .f32)
    (x1 : FVec Ideal S1x384x4096 .f32) : Prop where
  sum : ∀ q (p : Fin 4096), sum4 x0 q p = S q (N + p.val)
  feat : ∀ c (p : Fin 4096), x1 (ix3 0 c p) = X c (N + p.val)

section block

variable {S : Fin 16 → ℕ → EReal} {X : Fin 384 → ℕ → EReal} {N n : ℕ} {x0 : FVec Ideal S1x16x128x512 .f32}
  {x1 : FVec Ideal S1x384x4096 .f32}

/-- The gathered mask: 1 at each selected place of the block. -/
theorem gathered (h : Holds S X N x0 x1) (q : Fin 16) (p : Fin 4096) :
    k0_pay1 (F := Ideal) (k0_pay20 x0) rows k0_pay21 k0_pay22 (ix2 q p) = sel (S q (N + p.val)) := by
  rw [pay1_at, pay20_at, ← h.sum]; rfl

/-- The block's best place and its features. -/
theorem block_best (h : Holds S X N x0 x1) (h0 : ∀ q p, 0 ≤ S q p) (hn : n < 4) (q : Fin 16) :
    ∃ r, First (fun x => S q (N + x)) 4096 r ∧ k0_pay10 (F := Ideal) (k0_pay18 x0) k0_pay19 (ix2 q 0) = S q (N + r)
      ∧ ∀ c, k0_pay11 (F := Ideal) (BitVec.ofNat 32 n) (k0_pay18 x0) lanes k0_pay19 x1 (ix2 q c) = X c (N + r) := by
  obtain ⟨r, hr⟩ := exists_first (fun x => S q (N + x)) 4096 (by omega)
  have k0 : ∀ p, 0 ≤ sum4 x0 q p := fun p => by rw [h.sum]; exact h0 _ _
  have k1 : ∀ p, sum4 x0 q p ≤ sum4 x0 q ⟨r, hr.lt⟩ := fun p => by rw [h.sum, h.sum]; exact hr.le _ p.isLt
  have k2 : ∀ p < (⟨r, hr.lt⟩ : Fin 4096), sum4 x0 q p < sum4 x0 q ⟨r, hr.lt⟩ := fun p hp => by
    rw [h.sum, h.sum]; exact hr.first _ hp
  exact ⟨r, hr, (pay10_at x0 q ⟨r, hr.lt⟩ k0 k1).trans (h.sum _ _),
    fun c => (pay11_at n hn x0 x1 q c ⟨r, hr.lt⟩ k0 k1 k2).trans (h.feat _ _)⟩

variable {i : grid0.Coords}

/-- After a first block. -/
theorem seen_first (h : Holds S X 0 x0 x1) (h0 : ∀ q p, 0 ≤ S q p) (hi : hb i = BitVec.ofNat 32 0) (c1 : k0_cond1 i = 1#1)
    (c2 : ¬k0_cond2 i = 1#1) (f1 : isFirst (hb i) = 1#1) (f2 : ¬isLater (hb i) = 1#1) (s : St Ideal) :
    Seen S X 4096 (best i x0 x1 (add i x0 x1 (start i x0 x1 s))) := by
  have ho : ∀ q c, (best i x0 x1 (add i x0 x1 (start i x0 x1 s))).out (ix3 0 q c) = total (S q) (X c) 4096 := by
    intro q c
    rw [(best_agree (F := Ideal) i x0 x1 _).1]
    unfold add start
    rw [if_neg c2, if_pos c1]
    dsimp only
    rw [pay5_at]
    refine Eq.trans ?_ (total_add (S q) (X c) 0 4096).symm
    simp only [gathered h, h.feat]
    unfold total
    rw [Finset.range_zero, Finset.sum_empty, zero_add]
  have hc : ∀ q, (add i x0 x1 (start i x0 x1 s)).cnt (ix2 q 0) = count (S q) 4096 := by
    intro q
    unfold add start
    rw [if_neg c2, if_pos c1]
    dsimp only
    rw [pay6_at]
    refine Eq.trans ?_ (count_add (S q) 0 4096).symm
    simp only [gathered h]
    unfold Spec.count
    rw [Finset.range_zero, Finset.sum_empty, zero_add]
  refine ⟨ho, fun q => by rw [(best_agree (F := Ideal) i x0 x1 _).2]; exact hc q, fun q hq => ?_⟩
  obtain ⟨r, hr, hv, hf⟩ := block_best (n := 0) h h0 (by omega) q
  simp only [zero_add] at hr hv hf
  refine ⟨r, hr, ?_⟩
  unfold best
  rw [if_pos ((low_iff _).2 ⟨q, by rw [hc]; exact hq⟩)]
  unfold bestLater bestFirst
  rw [if_neg f2, if_pos f1]
  dsimp only
  refine ⟨(pay12_at _ _ _).trans hv, fun c => ?_⟩
  rw [pay13_at, hi]; exact hf c

/-- After a later block. -/
theorem seen_later (h : Holds S X N x0 x1) (h0 : ∀ q p, 0 ≤ S q p) (hn : n < 4) (hi : hb i = BitVec.ofNat 32 n) (c1 : ¬k0_cond1 i = 1#1)
    (c2 : k0_cond2 i = 1#1) (f1 : ¬isFirst (hb i) = 1#1) (f2 : isLater (hb i) = 1#1) {s : St Ideal} (hs : Seen S X N s) :
    Seen S X (N + 4096) (best i x0 x1 (add i x0 x1 (start i x0 x1 s))) := by
  have ho : ∀ q c, (best i x0 x1 (add i x0 x1 (start i x0 x1 s))).out (ix3 0 q c) = total (S q) (X c) (N + 4096) := by
    intro q c
    rw [(best_agree (F := Ideal) i x0 x1 _).1]
    unfold add start
    rw [if_pos c2, if_neg c1]
    dsimp only
    rw [pay7_at, total_add, hs.out]
    simp only [gathered h, h.feat]
  have hc : ∀ q, (add i x0 x1 (start i x0 x1 s)).cnt (ix2 q 0) = count (S q) (N + 4096) := by
    intro q
    unfold add start
    rw [if_pos c2, if_neg c1]
    dsimp only
    rw [pay8_at, count_add, hs.cnt]
    simp only [gathered h]
  have hb : (add i x0 x1 (start i x0 x1 s)).bv = s.bv ∧ (add i x0 x1 (start i x0 x1 s)).bf = s.bf := by
    unfold add start
    rw [if_pos c2, if_neg c1]
    exact ⟨rfl, rfl⟩
  refine ⟨ho, fun q => by rw [(best_agree (F := Ideal) i x0 x1 _).2]; exact hc q, fun q hq => ?_⟩
  obtain ⟨p, hp, hpv, hpf⟩ := hs.best q ((count_le _ _ _).trans hq)
  obtain ⟨r, hr, hv, hf⟩ := block_best (n := n) h h0 hn q
  refine ⟨_, hp.append hr, ?_⟩
  unfold best
  rw [if_pos ((low_iff _).2 ⟨q, by rw [hc]; exact hq⟩)]
  unfold bestLater bestFirst
  rw [if_pos f2, if_neg f1]
  dsimp only
  rw [hb.1, hb.2, pay15_at, hpv, hv]
  refine ⟨by split <;> rfl, fun c => ?_⟩
  rw [pay16_at, hpv, hv, hi, hf, hpf]
  split <;> rfl

/-- The last block's quotient, or the best place's feature. -/
theorem seen_last {s : St Ideal} (hs : Seen S X 16384 s) (c6 : k0_cond6 i = 1#1) (q : Fin 16) (c : Fin 384) :
    (finish i s).out (ix3 0 q c) = result (S q) (X c) := by
  unfold finish
  rw [if_pos c6]
  dsimp only
  rw [pay17_at, hs.cnt, hs.out]
  unfold result
  split
  · rfl
  · rename_i hq
    obtain ⟨p, hp, -, hf⟩ := hs.best q (not_lt.1 hq)
    rw [hf, place_eq hp]

end block

end Cert.KernelIdeal.Run

end
-- ==== Proof.KernelIdeal.Value.lean ====
/-
The kernel's output array over the extended reals, when no scribble is negative: the blocks read off the arguments, and the four
blocks of a batch in turn.
-/
module

public import proofs.«01_k».proof.Proof.KernelIdeal.Fold
public import proofs.«01_k».proof.Proof.KernelIdeal.Out
public import Idealize.ShloMosaic.Lib.Pipeline.ValueKit
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.Sem
open Cert.KernelIdeal Cert.KernelIdeal.Gen

variable (m : (ℓ : Loc nD τ sig) → Buf (Elt Ideal) ℓ)

/-- Where each window's block sits at a point. -/
theorem idx_val : ∀ t : Fin cfg0.N, win0_0.index t = ![t.val / 4, 0, t.val % 4, 0] ∧ win0_1.index t = ![t.val / 4, 0, t.val % 4]
    ∧ win0_2.index t = ![t.val / 4, 0, 0] :=
  (by decide +kernel : ∀ t : Fin grid0.N, _)

/-- The scribbles block. -/
theorem blk0_at (c : Dev nD) (t : Fin cfg0.N) (q : Fin 16) (r : Fin 128) (l : Fin 512) :
    blk0 m c t (ix4 0 q r l) = m ((c : Thread nD τ).loc main_arg1)
      (ix4 (⟨t.val / 4, by have := lt16 t; omega⟩ : Fin 4) q (⟨128 * (t.val % 4) + r.val, by omega⟩ : Fin 512) l) := by
  unfold blk0
  blk_ext [iblk, V, idx_val t]

/-- The feature block. -/
theorem blk1_at (c : Dev nD) (t : Fin cfg0.N) (k : Fin 384) (p : Fin 4096) :
    blk1 m c t (ix3 0 k p) = m ((c : Thread nD τ).loc main_arg0)
      (ix5 (0 : Fin 1) (⟨t.val / 4, by have := lt16 t; omega⟩ : Fin 4) k (⟨(4096 * (t.val % 4) + p.val) / 128, by omega⟩ : Fin 128)
        (⟨p.val % 128, by omega⟩ : Fin 128)) := by
  unfold blk1
  blk_ext! [iblk, V, idx_val t]

/-- The blocks at point `t` hold the places of its quarter of its batch. -/
theorem holds (c : Dev nD) (t : Fin cfg0.N) (b : Fin 4) (hb : t.val / 4 = b.val) :
    Holds (Spec.sums (m ((c : Thread nD τ).loc main_arg1)) b) (Spec.feats (m ((c : Thread nD τ).loc main_arg0)) b)
      (4096 * (t.val % 4)) (blk0 m c t) (blk1 m c t) := by
  have ht := lt16 t
  have hb' : (⟨t.val / 4, by omega⟩ : Fin 4) = b := Fin.ext hb
  refine ⟨fun q p => ?_, fun k p => ?_⟩
  · have hp := p.isLt
    unfold sum4 four Spec.sums
    rw [blk0_at, blk0_at, blk0_at, blk0_at, hb']
    have e1 : ∀ h h', (⟨128 * (t.val % 4) + (4 * (p.val / 128) + 1), h⟩ : Fin 512)
        = ⟨(4 * ((4096 * (t.val % 4) + p.val) / 128) + 1) % 512, h'⟩ := fun h h' => Fin.ext (by dsimp only; omega)
    have e2 : ∀ h h', (⟨128 * (t.val % 4) + (4 * (p.val / 128) + 2), h⟩ : Fin 512)
        = ⟨(4 * ((4096 * (t.val % 4) + p.val) / 128) + 2) % 512, h'⟩ := fun h h' => Fin.ext (by dsimp only; omega)
    have e3 : ∀ h h', (⟨4 * (p.val % 128) + 1, h⟩ : Fin 512)
        = ⟨4 * ((4096 * (t.val % 4) + p.val) % 128) + 1, h'⟩ := fun h h' => Fin.ext (by dsimp only; omega)
    have e4 : ∀ h h', (⟨4 * (p.val % 128) + 2, h⟩ : Fin 512)
        = ⟨4 * ((4096 * (t.val % 4) + p.val) % 128) + 2, h'⟩ := fun h h' => Fin.ext (by dsimp only; omega)
    dsimp only
    rw [e1 _ (by omega), e2 _ (by omega), e3 _ (by omega), e4 _ (by omega)]
  · have hp := p.isLt
    rw [blk1_at, hb']
    unfold Spec.feats
    congr 2 <;> ext <;> dsimp only <;> omega

/-- The buffers before the last part of the body, at each point of a batch. -/
theorem seen (c : Dev nD) (h0 : ∀ y, (0 : EReal) ≤ m ((c : Thread nD τ).loc main_arg1) y) (b : Fin 4) (s0 : St Ideal) :
    ∀ (n : ℕ) (t : Fin cfg0.N), t.val % 4 = n → t.val / 4 = b.val →
      Seen (Spec.sums (m ((c : Thread nD τ).loc main_arg1)) b) (Spec.feats (m ((c : Thread nD τ).loc main_arg0)) b) (4096 * (n + 1))
        (best (grid0.coords t) (blk0 m c t) (blk1 m c t) (add (grid0.coords t) (blk0 m c t) (blk1 m c t)
          (start (grid0.coords t) (blk0 m c t) (blk1 m c t) (steps m c s0 t.val))))
  | 0, t, hn, hb => by
    have hh := holds m c t b hb
    rw [hn] at hh
    exact seen_first hh (Spec.sums_nonneg h0 b) (by unfold Run.hb; rw [coord1, hn]) ((cond1_iff t).2 hn)
      (fun e => (cond2_iff t).1 e hn) ((isFirst_iff t).2 hn) (fun e => (isLater_iff t).1 e hn) _
  | n + 1, t, hn, hb => by
    have ht := t.isLt
    have hh := holds m c t b hb
    rw [hn] at hh
    have hs := steps_succ m c s0 ⟨t.val - 1, by omega⟩
    have ih := seen c h0 b s0 n ⟨t.val - 1, by omega⟩ (by dsimp only; omega) (by dsimp only; omega)
    dsimp only at hs ih
    rw [show t.val - 1 + 1 = t.val by omega] at hs
    have hk : Seen (Spec.sums (m ((c : Thread nD τ).loc main_arg1)) b) (Spec.feats (m ((c : Thread nD τ).loc main_arg0)) b)
        (4096 * (n + 1)) (steps m c s0 t.val) := by
      rw [hs]
      unfold step finish
      rw [if_neg fun e => by have := (cond6_iff _).1 e; dsimp only at this; omega]
      exact ih
    have h4 : n + 1 < 4 := by omega
    exact seen_later (n := n + 1) hh (Spec.sums_nonneg h0 b) h4 (by unfold Run.hb; rw [coord1, hn]) (fun e => by have := (cond1_iff t).1 e; omega)
      ((cond2_iff t).2 (by omega)) (fun e => by have := (isFirst_iff t).1 e; omega) ((isLater_iff t).2 (by omega)) hk

/-- The run, over scribbles none of which is negative: the output array is the plain function of the arguments. -/
theorem run_value (ρ : Dev nD → PrngReg) (h0 : ∀ (c : Dev nD) y, (0 : EReal) ≤ m ((c : Thread nD τ).loc main_arg1) y) :
    θ_run defs (onTc (τ := τ) (main (F := Ideal))) ⟨m, fun _ => 0, ρ⟩ (fun r => ∀ c : Dev nD,
      r.2.mem ((c.tc : Thread nD τ).loc main_v2)
          = Spec.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine run_out m ρ (fun c => Spec.out (m ((c.tc : Thread nD τ).loc main_arg0)) (m ((c.tc : Thread nD τ).loc main_arg1)))
    fun c t ht s0 y => ?_
  have hl := lt16 t
  rw [steps_succ]
  have hs := seen m c (h0 c) ⟨t.val / 4, by omega⟩ s0 3 t ht rfl
  idx_vars y
  obtain rfl : y0 = 0 := Subsingleton.elim _ _
  have e : ((cfg0.win 2).blk t).view.emb (ix3 0 y1 y2) = ix3 (⟨t.val / 4, by omega⟩ : Fin 4) y1 y2 := by
    blk_ext [idx_val t]
  refine Eq.trans ?_ (congrArg _ e).symm
  unfold step
  exact seen_last hs ((cond6_iff t).2 ht) y1 y2

end Cert.KernelIdeal.Run

end
-- ==== Proof.ReferenceIdeal.Line.lean ====
/-
The reference's run. Its main is a straight line of host operations; the line is listed here in nine stages, so that
what one stage leaves is read from what the stages before it left, and no composed term of the whole line is ever
written out. The frame: the line ends, no argument is written, and there is no semaphore to change.
-/
module

public import proofs.«01_k».proof.Defs
public import proofs.«01_k».proof.Proof.Gen.ReferenceIdeal
public import Idealize.ShloMosaic.Lib.Claim

@[expose] public section

set_option maxRecDepth 16384

noncomputable section

namespace Cert.ReferenceIdeal.Run

open Idealize.ShloMosaic Idealize.ShloMosaic.TcCoe Idealize.ShloMosaic.Tactic Idealize.ShloMosaic.StableHlo
open Idealize.SL Idealize.SL.Sem
open Cert.ReferenceIdeal Cert.ReferenceIdeal.Gen

variable {F : FTy → Type} [FloatOps F]

/-- The level axis dropped from the features. -/
abbrev level : List (HloOp τ sig (Elt F)) :=
  [ reshape main_arg0 main_v0 (rfl : (.f32 : EltTy) = .f32) shapeCasts_S1x4x384x128x128_S4x384x128x128 ]

/-- The sampling points of the output rows and the hat function around each, over the input rows. -/
abbrev hatRows : List (HloOp τ sig (Elt F)) :=
  [ TRef.nullary main_call0.v0 (sitofp .f32 (iotaInDim S128 32 0)),
    TRef.nullary main_call0.cst (constant S_ .f32 0x3F000000#32),
    TRef.unary main_call0.cst main_call0.v1 (broadcastInDim S128 ![] bcast_S_S128),
    TRef.binary main_call0.v0 main_call0.v1 main_call0.v2 addf,
    TRef.nullary main_call0.cst_0 (constant S_ .f32 0x40800000#32),
    TRef.unary main_call0.cst_0 main_call0.v3 (broadcastInDim S128 ![] bcast_S_S128),
    TRef.binary main_call0.v2 main_call0.v3 main_call0.v4 mulf,
    TRef.nullary main_call0.cst_1 (constant S_ .f32 0x00000000#32),
    TRef.unary main_call0.cst_1 main_call0.v5 (broadcastInDim S128 ![] bcast_S_S128),
    TRef.binary main_call0.v4 main_call0.v5 main_call0.v6 subf,
    TRef.nullary main_call0.cst_2 (constant S_ .f32 0x3F000000#32),
    TRef.unary main_call0.cst_2 main_call0.v7 (broadcastInDim S128 ![] bcast_S_S128),
    TRef.binary main_call0.v6 main_call0.v7 main_call0.v8 subf,
    TRef.nullary main_call0.v9 (sitofp .f32 (iotaInDim S512 32 0)),
    TRef.unary main_call0.v8 main_call0.v10 (broadcastInDim S1x128 ![1] bcast_S128_S1x128_1),
    TRef.unary main_call0.v9 main_call0.v11 (broadcastInDim S512x1 ![0] bcast_S512_S512x1_0),
    TRef.unary main_call0.v10 main_call0.v12 (broadcastInDim S512x128 ![0, 1] bcast_S1x128_S512x128_0_1),
    TRef.unary main_call0.v11 main_call0.v13 (broadcastInDim S512x128 ![0, 1] bcast_S512x1_S512x128_0_1),
    TRef.binary main_call0.v12 main_call0.v13 main_call0.v14 subf,
    TRef.unary main_call0.v14 main_call0.v15 Host.absf,
    TRef.nullary main_call0.cst_3 (constant S_ .f32 0x3F800000#32),
    TRef.unary main_call0.cst_3 main_call0.v16 (broadcastInDim S512x128 ![] bcast_S_S512x128),
    TRef.binary main_call0.v15 main_call0.v16 main_call0.v17 Host.divf,
    TRef.unary main_call0.v17 main_call0.v18 Host.absf,
    TRef.nullary main_call0.cst_4 (constant S_ .f32 0x3F800000#32),
    TRef.unary main_call0.cst_4 main_call0.v19 (broadcastInDim S512x128 ![] bcast_S_S512x128),
    TRef.binary main_call0.v19 main_call0.v18 main_call0.v20 subf,
    TRef.nullary main_call0.cst_5 (constant S_ .f32 0x00000000#32),
    TRef.unary main_call0.cst_5 main_call0.v21 (broadcastInDim S512x128 ![] bcast_S_S512x128),
    TRef.binary main_call0.v21 main_call0.v20 main_call0.v22 maximumf ]

/-- The row weights: each hat divided by its sum, and zero where the sampling point lies outside the image. -/
abbrev weightRows : List (HloOp τ sig (Elt F)) :=
  [ TRef.nullary main_call0.cst_6 (constant S_ .f32 0x00000000#32),
    TRef.binary main_call0.v22 main_call0.cst_6 main_call0.v23 (fun x v => Host.reduceAdd x v reducesTo_S512x128_S128_d0 h_S_),
    TRef.unary main_call0.v23 main_call0.v24 (broadcastInDim S1x128 ![1] bcast_S128_S1x128_1),
    TRef.unary main_call0.v24 main_call0.v25 Host.absf,
    TRef.nullary main_call0.cst_7 (constant S_ .f32 0x38FA0000#32),
    TRef.unary main_call0.cst_7 main_call0.v26 (broadcastInDim S1x128 ![] bcast_S_S1x128),
    TRef.binary main_call0.v25 main_call0.v26 main_call0.v27 (cmpf .ogt),
    TRef.nullary main_call0.cst_8 (constant S_ .f32 0x00000000#32),
    TRef.unary main_call0.cst_8 main_call0.v28 (broadcastInDim S1x128 ![] bcast_S_S1x128),
    TRef.binary main_call0.v24 main_call0.v28 main_call0.v29 (cmpf .une),
    TRef.nullary main_call0.c (constantI S_ 32 1#32),
    TRef.unary main_call0.c main_call0.call0.v0 (sitofp .f32),
    TRef.unary main_call0.call0.v0 main_call0.call0.v1 (broadcastInDim S1x128 ![] bcast_S_S1x128),
    TRef.ternary main_call0.v29 main_call0.v24 main_call0.call0.v1 main_call0.call0.v2 select,
    TRef.unary main_call0.call0.v2 main_call0.v31 (broadcastInDim S512x128 ![0, 1] bcast_S1x128_S512x128_0_1),
    TRef.binary main_call0.v22 main_call0.v31 main_call0.v32 Host.divf,
    TRef.nullary main_call0.c_9 (constantI S_ 32 0#32),
    TRef.unary main_call0.c_9 main_call0.call1.v0 (sitofp .f32),
    TRef.unary main_call0.v27 main_call0.call1.v1 (broadcastInDim S512x128 ![0, 1] bcast_S1x128_S512x128_0_1),
    TRef.unary main_call0.call1.v0 main_call0.call1.v2 (broadcastInDim S512x128 ![] bcast_S_S512x128),
    TRef.ternary main_call0.call1.v1 main_call0.v32 main_call0.call1.v2 main_call0.call1.v3 select,
    TRef.nullary main_call0.cst_10 (constant S_ .f32 0xBF000000#32),
    TRef.unary main_call0.cst_10 main_call0.v34 (broadcastInDim S128 ![] bcast_S_S128),
    TRef.binary main_call0.v8 main_call0.v34 main_call0.v35 (cmpf .oge),
    TRef.nullary main_call0.cst_11 (constant S_ .f32 0x43FFC000#32),
    TRef.unary main_call0.cst_11 main_call0.v36 (broadcastInDim S128 ![] bcast_S_S128),
    TRef.binary main_call0.v8 main_call0.v36 main_call0.v37 (cmpf .ole),
    TRef.binary main_call0.v35 main_call0.v37 main_call0.v38 andi,
    TRef.unary main_call0.v38 main_call0.v39 (broadcastInDim S1x128 ![1] bcast_S128_S1x128_1),
    TRef.nullary main_call0.c_12 (constantI S_ 32 0#32),
    TRef.unary main_call0.c_12 main_call0.call2.v0 (sitofp .f32),
    TRef.unary main_call0.v39 main_call0.call2.v1 (broadcastInDim S512x128 ![0, 1] bcast_S1x128_S512x128_0_1),
    TRef.unary main_call0.call2.v0 main_call0.call2.v2 (broadcastInDim S512x128 ![] bcast_S_S512x128),
    TRef.ternary main_call0.call2.v1 main_call0.call1.v3 main_call0.call2.v2 main_call0.call2.v3 select ]

/-- The sampling points of the output columns and the hat function around each, over the input columns. -/
abbrev hatCols : List (HloOp τ sig (Elt F)) :=
  [ TRef.nullary main_call0.v41 (sitofp .f32 (iotaInDim S128 32 0)),
    TRef.nullary main_call0.cst_13 (constant S_ .f32 0x3F000000#32),
    TRef.unary main_call0.cst_13 main_call0.v42 (broadcastInDim S128 ![] bcast_S_S128),
    TRef.binary main_call0.v41 main_call0.v42 main_call0.v43 addf,
    TRef.nullary main_call0.cst_14 (constant S_ .f32 0x40800000#32),
    TRef.unary main_call0.cst_14 main_call0.v44 (broadcastInDim S128 ![] bcast_S_S128),
    TRef.binary main_call0.v43 main_call0.v44 main_call0.v45 mulf,
    TRef.nullary main_call0.cst_15 (constant S_ .f32 0x00000000#32),
    TRef.unary main_call0.cst_15 main_call0.v46 (broadcastInDim S128 ![] bcast_S_S128),
    TRef.binary main_call0.v45 main_call0.v46 main_call0.v47 subf,
    TRef.nullary main_call0.cst_16 (constant S_ .f32 0x3F000000#32),
    TRef.unary main_call0.cst_16 main_call0.v48 (broadcastInDim S128 ![] bcast_S_S128),
    TRef.binary main_call0.v47 main_call0.v48 main_call0.v49 subf,
    TRef.nullary main_call0.v50 (sitofp .f32 (iotaInDim S512 32 0)),
    TRef.unary main_call0.v49 main_call0.v51 (broadcastInDim S1x128 ![1] bcast_S128_S1x128_1),
    TRef.unary main_call0.v50 main_call0.v52 (broadcastInDim S512x1 ![0] bcast_S512_S512x1_0),
    TRef.unary main_call0.v51 main_call0.v53 (broadcastInDim S512x128 ![0, 1] bcast_S1x128_S512x128_0_1),
    TRef.unary main_call0.v52 main_call0.v54 (broadcastInDim S512x128 ![0, 1] bcast_S512x1_S512x128_0_1),
    TRef.binary main_call0.v53 main_call0.v54 main_call0.v55 subf,
    TRef.unary main_call0.v55 main_call0.v56 Host.absf,
    TRef.nullary main_call0.cst_17 (constant S_ .f32 0x3F800000#32),
    TRef.unary main_call0.cst_17 main_call0.v57 (broadcastInDim S512x128 ![] bcast_S_S512x128),
    TRef.binary main_call0.v56 main_call0.v57 main_call0.v58 Host.divf,
    TRef.unary main_call0.v58 main_call0.v59 Host.absf,
    TRef.nullary main_call0.cst_18 (constant S_ .f32 0x3F800000#32),
    TRef.unary main_call0.cst_18 main_call0.v60 (broadcastInDim S512x128 ![] bcast_S_S512x128),
    TRef.binary main_call0.v60 main_call0.v59 main_call0.v61 subf,
    TRef.nullary main_call0.cst_19 (constant S_ .f32 0x00000000#32),
    TRef.unary main_call0.cst_19 main_call0.v62 (broadcastInDim S512x128 ![] bcast_S_S512x128),
    TRef.binary main_call0.v62 main_call0.v61 main_call0.v63 maximumf ]

/-- The column weights, as the row weights. -/
abbrev weightCols : List (HloOp τ sig (Elt F)) :=
  [ TRef.nullary main_call0.cst_20 (constant S_ .f32 0x00000000#32),
    TRef.binary main_call0.v63 main_call0.cst_20 main_call0.v64 (fun x v => Host.reduceAdd x v reducesTo_S512x128_S128_d0 h_S_),
    TRef.unary main_call0.v64 main_call0.v65 (broadcastInDim S1x128 ![1] bcast_S128_S1x128_1),
    TRef.unary main_call0.v65 main_call0.v66 Host.absf,
    TRef.nullary main_call0.cst_21 (constant S_ .f32 0x38FA0000#32),
    TRef.unary main_call0.cst_21 main_call0.v67 (broadcastInDim S1x128 ![] bcast_S_S1x128),
    TRef.binary main_call0.v66 main_call0.v67 main_call0.v68 (cmpf .ogt),
    TRef.nullary main_call0.cst_22 (constant S_ .f32 0x00000000#32),
    TRef.unary main_call0.cst_22 main_call0.v69 (broadcastInDim S1x128 ![] bcast_S_S1x128),
    TRef.binary main_call0.v65 main_call0.v69 main_call0.v70 (cmpf .une),
    TRef.nullary main_call0.c_23 (constantI S_ 32 1#32),
    TRef.unary main_call0.c_23 main_call0.call3.v0 (sitofp .f32),
    TRef.unary main_call0.call3.v0 main_call0.call3.v1 (broadcastInDim S1x128 ![] bcast_S_S1x128),
    TRef.ternary main_call0.v70 main_call0.v65 main_call0.call3.v1 main_call0.call3.v2 select,
    TRef.unary main_call0.call3.v2 main_call0.v72 (broadcastInDim S512x128 ![0, 1] bcast_S1x128_S512x128_0_1),
    TRef.binary main_call0.v63 main_call0.v72 main_call0.v73 Host.divf,
    TRef.nullary main_call0.c_24 (constantI S_ 32 0#32),
    TRef.unary main_call0.c_24 main_call0.call4.v0 (sitofp .f32),
    TRef.unary main_call0.v68 main_call0.call4.v1 (broadcastInDim S512x128 ![0, 1] bcast_S1x128_S512x128_0_1),
    TRef.unary main_call0.call4.v0 main_call0.call4.v2 (broadcastInDim S512x128 ![] bcast_S_S512x128),
    TRef.ternary main_call0.call4.v1 main_call0.v73 main_call0.call4.v2 main_call0.call4.v3 select,
    TRef.nullary main_call0.cst_25 (constant S_ .f32 0xBF000000#32),
    TRef.unary main_call0.cst_25 main_call0.v75 (broadcastInDim S128 ![] bcast_S_S128),
    TRef.binary main_call0.v49 main_call0.v75 main_call0.v76 (cmpf .oge),
    TRef.nullary main_call0.cst_26 (constant S_ .f32 0x43FFC000#32),
    TRef.unary main_call0.cst_26 main_call0.v77 (broadcastInDim S128 ![] bcast_S_S128),
    TRef.binary main_call0.v49 main_call0.v77 main_call0.v78 (cmpf .ole),
    TRef.binary main_call0.v76 main_call0.v78 main_call0.v79 andi,
    TRef.unary main_call0.v79 main_call0.v80 (broadcastInDim S1x128 ![1] bcast_S128_S1x128_1),
    TRef.nullary main_call0.c_27 (constantI S_ 32 0#32),
    TRef.unary main_call0.c_27 main_call0.call5.v0 (sitofp .f32),
    TRef.unary main_call0.v80 main_call0.call5.v1 (broadcastInDim S512x128 ![0, 1] bcast_S1x128_S512x128_0_1),
    TRef.unary main_call0.call5.v0 main_call0.call5.v2 (broadcastInDim S512x128 ![] bcast_S_S512x128),
    TRef.ternary main_call0.call5.v1 main_call0.call4.v3 main_call0.call5.v2 main_call0.call5.v3 select ]

/-- The two contractions of the image with the weights, and the axes put back in order. -/
abbrev resized : List (HloOp τ sig (Elt F)) :=
  [ TRef.binary main_call0.call2.v3 (.of main_arg1 : TRef sig ⟨S4x16x512x512, .f32⟩) main_call0.v82 (fun l r => Host.dotGeneral dot_S512x128_S4x16x512x512_S128x4x16x512_0_2_1_013_n_n (some .fp32) l r),
    TRef.binary main_call0.v82 main_call0.call5.v3 main_call0.v83 (fun l r => Host.dotGeneral dot_S128x4x16x512_S512x128_S128x4x16x128_3_0_012_1_n_n (some .fp32) l r),
    TRef.unary main_call0.v83 main_call0.v84 (transpose S4x16x128x128 [1, 2, 0, 3] · transposes_S128x4x16x128_S4x16x128x128_1_2_0_3) ]

/-- The features and the resized scribbles flattened over the map; the mask and its counts. -/
abbrev masks : List (HloOp τ sig (Elt F)) :=
  [ reshape main_v0 main_v2 (rfl : (.f32 : EltTy) = .f32) shapeCasts_S4x384x128x128_S4x384x16384,
    unary main_v2 main_v3 ((transpose S4x16384x384 [0, 2, 1] · transposes_S4x384x16384_S4x16384x384_0_2_1) : (⟨S4x384x16384, .f32⟩ : BufTy).Contents (Elt F) → (⟨S4x16384x384, .f32⟩ : BufTy).Contents (Elt F)),
    reshape main_v1 main_v4 (rfl : (.f32 : EltTy) = .f32) shapeCasts_S4x16x128x128_S4x16x16384,
    nullary main_cst (constant S_ .f32 0x3F000000#32),
    unary main_cst main_v5 (broadcastInDim S4x16x16384 ![] bcast_S_S4x16x16384 : (⟨S_, .f32⟩ : BufTy).Contents (Elt F) → (⟨S4x16x16384, .f32⟩ : BufTy).Contents (Elt F)),
    binary main_v4 main_v5 main_v6 (cmpf .ogt : (⟨S4x16x16384, .f32⟩ : BufTy).Contents (Elt F) → (⟨S4x16x16384, .f32⟩ : BufTy).Contents (Elt F) → (⟨S4x16x16384, .i1⟩ : BufTy).Contents (Elt F)),
    unary main_v6 main_v7 (uitofp .f32 : (⟨S4x16x16384, .i1⟩ : BufTy).Contents (Elt F) → (⟨S4x16x16384, .f32⟩ : BufTy).Contents (Elt F)),
    nullary main_cst_0 (constant S_ .f32 0x00000000#32),
    binary main_v7 main_cst_0 main_v8 ((fun x v => Host.reduceAdd x v reducesTo_S4x16x16384_S4x16_d2 h_S_) : (⟨S4x16x16384, .f32⟩ : BufTy).Contents (Elt F) → (⟨S_, .f32⟩ : BufTy).Contents (Elt F) → (⟨S4x16, .f32⟩ : BufTy).Contents (Elt F)) ]

/-- The first largest value of each flattened map, and the one-hot row of its place. -/
abbrev onehots : List (HloOp τ sig (Elt F)) :=
  [ TRef.nullary main_call1.v0 (iotaInDim S4x16x16384 32 2),
    TRef.nullary main_call1.cst (constant S_ .f32 0xFF800000#32),
    TRef.nullary main_call1.c (constantI S_ 32 0#32),
    TRef.quaternary (.of main_v4 : TRef sig ⟨S4x16x16384, .f32⟩) main_call1.v0 main_call1.cst main_call1.c main_call1.v1_0 (fun x y u v j => (Host.argReduce reducer_argmax_f32_i32 x y u v reducesTo_S4x16x16384_S4x16_d2 h_S_ j).1),
    TRef.quaternary (.of main_v4 : TRef sig ⟨S4x16x16384, .f32⟩) main_call1.v0 main_call1.cst main_call1.c main_call1.v1_1 (fun x y u v j => (Host.argReduce reducer_argmax_f32_i32 x y u v reducesTo_S4x16x16384_S4x16_d2 h_S_ j).2),
    TRef.unary (.of main_v9 : TRef sig ⟨S4x16, .i32⟩) main_call2.v0 (broadcastInDim S4x16x1 ![0, 1] bcast_S4x16_S4x16x1_0_1),
    TRef.nullary main_call2.v1 (iotaInDim S1x1x16384 32 2),
    TRef.unary main_call2.v0 main_call2.v2 (broadcastInDim S4x16x16384 ![0, 1, 2] bcast_S4x16x1_S4x16x16384_0_1_2),
    TRef.unary main_call2.v1 main_call2.v3 (broadcastInDim S4x16x16384 ![0, 1, 2] bcast_S1x1x16384_S4x16x16384_0_1_2),
    TRef.binary main_call2.v2 main_call2.v3 main_call2.v4 (cmpi .eq),
    TRef.unary main_call2.v4 main_call2.v5 (uitofp .f32) ]

/-- The weights where nothing is selected, and the weighted mean of the features. -/
abbrev means : List (HloOp τ sig (Elt F)) :=
  [ nullary main_cst_1 (constant S_ .f32 0x00000000#32),
    unary main_cst_1 main_v11 (broadcastInDim S4x16 ![] bcast_S_S4x16 : (⟨S_, .f32⟩ : BufTy).Contents (Elt F) → (⟨S4x16, .f32⟩ : BufTy).Contents (Elt F)),
    binary main_v8 main_v11 main_v12 (cmpf .oeq : (⟨S4x16, .f32⟩ : BufTy).Contents (Elt F) → (⟨S4x16, .f32⟩ : BufTy).Contents (Elt F) → (⟨S4x16, .i1⟩ : BufTy).Contents (Elt F)),
    unary main_v12 main_v13 (broadcastInDim S4x16x1 ![0, 1] bcast_S4x16_S4x16x1_0_1 : (⟨S4x16, .i1⟩ : BufTy).Contents (Elt F) → (⟨S4x16x1, .i1⟩ : BufTy).Contents (Elt F)),
    TRef.unary (.of main_v13 : TRef sig ⟨S4x16x1, .i1⟩) main_call3.v0 (broadcastInDim S4x16x16384 ![0, 1, 2] bcast_S4x16x1_S4x16x16384_0_1_2),
    TRef.ternary main_call3.v0 (.of main_v10 : TRef sig ⟨S4x16x16384, .f32⟩) (.of main_v7 : TRef sig ⟨S4x16x16384, .f32⟩) main_call3.v1 select,
    nullary main_cst_2 (constant S_ .f32 0x00000000#32),
    binary main_v14 main_cst_2 main_v15 ((fun x v => Host.reduceAdd x v reducesTo_S4x16x16384_S4x16_d2 h_S_) : (⟨S4x16x16384, .f32⟩ : BufTy).Contents (Elt F) → (⟨S_, .f32⟩ : BufTy).Contents (Elt F) → (⟨S4x16, .f32⟩ : BufTy).Contents (Elt F)),
    binary main_v14 main_v3 main_v16 ((fun l r => Host.dotGeneral dot_S4x16x16384_S4x16384x384_S4x16x384_2_1_1_2_0_0 none l r) : (⟨S4x16x16384, .f32⟩ : BufTy).Contents (Elt F) → (⟨S4x16384x384, .f32⟩ : BufTy).Contents (Elt F) → (⟨S4x16x384, .f32⟩ : BufTy).Contents (Elt F)),
    unary main_v15 main_v17 (broadcastInDim S4x16x1 ![0, 1] bcast_S4x16_S4x16x1_0_1 : (⟨S4x16, .f32⟩ : BufTy).Contents (Elt F) → (⟨S4x16x1, .f32⟩ : BufTy).Contents (Elt F)),
    unary main_v17 main_v18 (broadcastInDim S4x16x384 ![0, 1, 2] bcast_S4x16x1_S4x16x384_0_1_2 : (⟨S4x16x1, .f32⟩ : BufTy).Contents (Elt F) → (⟨S4x16x384, .f32⟩ : BufTy).Contents (Elt F)),
    binary main_v16 main_v18 main_v19 (Host.divf : (⟨S4x16x384, .f32⟩ : BufTy).Contents (Elt F) → (⟨S4x16x384, .f32⟩ : BufTy).Contents (Elt F) → (⟨S4x16x384, .f32⟩ : BufTy).Contents (Elt F)) ]

/-- The whole line. -/
abbrev line : List (HloOp τ sig (Elt F)) :=
  level ++ (hatRows ++ (weightRows ++ (hatCols ++ (weightCols ++ (resized ++ (masks ++ (onehots ++ (means))))))))

/-- The main is that line. -/
theorem main_line (c : Dev nD) : main (F := F) c = seq line := rfl

/-- An operation of the line touches only buffers of the core, and none of its own making. -/
abbrev Plain (ops : List (HloOp τ sig (Elt F))) : Prop :=
  (ops.Forall fun op => op.bufs ⊆ tcRefs τ sig) ∧ ∀ op ∈ ops, op.fresh = ∅

/-- Two plain lines, one after the other, are plain. -/
theorem Plain.append {a b : List (HloOp τ sig (Elt F))} (ha : Plain a) (hb : Plain b) : Plain (a ++ b) :=
  ⟨List.forall_append.2 ⟨ha.1, hb.1⟩, fun op h => (List.mem_append.1 h).elim (ha.2 op) (hb.2 op)⟩

/-- The stage `level` is plain. -/
theorem level_plain : Plain (level (F := F)) := ⟨by simp, by simp; repeat (first | exact rfl | refine ⟨rfl, ?_⟩)⟩
/-- The stage `hatRows` is plain. -/
theorem hatRows_plain : Plain (hatRows (F := F)) := ⟨by simp, by simp; repeat (first | exact rfl | refine ⟨rfl, ?_⟩)⟩
/-- The stage `weightRows` is plain. -/
theorem weightRows_plain : Plain (weightRows (F := F)) := ⟨by simp, by simp; repeat (first | exact rfl | refine ⟨rfl, ?_⟩)⟩
/-- The stage `hatCols` is plain. -/
theorem hatCols_plain : Plain (hatCols (F := F)) := ⟨by simp, by simp; repeat (first | exact rfl | refine ⟨rfl, ?_⟩)⟩
/-- The stage `weightCols` is plain. -/
theorem weightCols_plain : Plain (weightCols (F := F)) := ⟨by simp, by simp; repeat (first | exact rfl | refine ⟨rfl, ?_⟩)⟩
/-- The stage `resized` is plain. -/
theorem resized_plain : Plain (resized (F := F)) := ⟨by simp, by simp; repeat (first | exact rfl | refine ⟨rfl, ?_⟩)⟩
/-- The stage `masks` is plain. -/
theorem masks_plain : Plain (masks (F := F)) := ⟨by simp, by simp; repeat (first | exact rfl | refine ⟨rfl, ?_⟩)⟩
/-- The stage `onehots` is plain. -/
theorem onehots_plain : Plain (onehots (F := F)) := ⟨by simp, by simp; repeat (first | exact rfl | refine ⟨rfl, ?_⟩)⟩
/-- The stage `means` is plain. -/
theorem means_plain : Plain (means (F := F)) := ⟨by simp, by simp; repeat (first | exact rfl | refine ⟨rfl, ?_⟩)⟩

/-- The whole line is plain. -/
theorem line_plain : Plain (line (F := F)) :=
  level_plain.append (hatRows_plain.append (weightRows_plain.append (hatCols_plain.append (weightCols_plain.append (resized_plain.append (masks_plain.append (onehots_plain.append means_plain)))))))

/-- The run: every buffer ends at the line's results folded over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after line (launchContents m d) (Proc.devRef .tc b) :=
  run_hlo defs main main_line (by decide) (by decide) line_plain.1 line_plain.2 m ρ

end Cert.ReferenceIdeal.Run

end
-- ==== Proof.ReferenceIdeal.Value.lean ====
/-
What the reference leaves in its result, stage by stage: the interpolation weights (which read no argument), the
resized scribbles, the mask and its counts, the one-hot rows of the largest values, and the weighted means.
-/
module

public import proofs.«01_k».proof.Proof.ReferenceIdeal.Line
public import Idealize.ShloMosaic.Lib.Pipeline.Frame

@[expose] public section

set_option maxRecDepth 16384

noncomputable section

namespace Cert.ReferenceIdeal.Run

open Idealize.ShloMosaic Idealize.ShloMosaic.TcCoe Idealize.ShloMosaic.Tactic Idealize.ShloMosaic.StableHlo
open Idealize.SL Idealize.SL.Sem
open Cert.ReferenceIdeal Cert.ReferenceIdeal.Gen

variable {F : FTy → Type} [FloatOps F]

/-- One number over a whole shape. -/
def fill (s : Shape) (h : S_.BroadcastsInDim s (![] : Fin 0 → Fin s.rank)) (w : BitVec 32) : FVec F s .f32 :=
  broadcastInDim s ![] h (constant S_ .f32 w)

/-- Where each output row samples the input rows: (h + 1/2)·4 − 0 − 1/2. -/
def points : FVec F S128 .f32 :=
  subf (subf (mulf (addf (sitofp .f32 (iotaInDim S128 32 0)) (fill S128 bcast_S_S128 0x3F000000#32))
    (fill S128 bcast_S_S128 0x40800000#32)) (fill S128 bcast_S_S128 0x00000000#32)) (fill S128 bcast_S_S128 0x3F000000#32)

/-- The hat function around each sampling point, at each input row: max 0 (1 − |s − k|). -/
def hat (s : FVec F S128 .f32) : FVec F S512x128 .f32 :=
  maximumf (fill S512x128 bcast_S_S512x128 0x00000000#32)
    (subf (fill S512x128 bcast_S_S512x128 0x3F800000#32)
      (Host.absf (Host.divf (Host.absf (subf
          (broadcastInDim S512x128 ![0, 1] bcast_S1x128_S512x128_0_1 (broadcastInDim S1x128 ![1] bcast_S128_S1x128_1 s))
          (broadcastInDim S512x128 ![0, 1] bcast_S512x1_S512x128_0_1
            (broadcastInDim S512x1 ![0] bcast_S512_S512x1_0 (sitofp .f32 (iotaInDim S512 32 0))))))
        (fill S512x128 bcast_S_S512x128 0x3F800000#32))))

/-- The sum of each hat over the input rows. -/
def hatSum (u : FVec F S512x128 .f32) : FVec F S1x128 .f32 :=
  broadcastInDim S1x128 ![1] bcast_S128_S1x128_1
    (Host.reduceAdd u (constant S_ .f32 0x00000000#32) reducesTo_S512x128_S128_d0 h_S_)

/-- A whole number as a float over a whole shape. -/
def fillI (s : Shape) (h : S_.BroadcastsInDim s (![] : Fin 0 → Fin s.rank)) (w : BitVec 32) : FVec F s .f32 :=
  broadcastInDim s ![] h (sitofp .f32 (constantI S_ 32 w))

/-- The interpolation weights: each hat over its sum, zero where the sum is tiny or the sampling point lies outside. -/
def weights (s : FVec F S128 .f32) (u : FVec F S512x128 .f32) : FVec F S512x128 .f32 :=
  select
    (broadcastInDim S512x128 ![0, 1] bcast_S1x128_S512x128_0_1 (broadcastInDim S1x128 ![1] bcast_S128_S1x128_1
      (andi (cmpf .oge s (fill S128 bcast_S_S128 0xBF000000#32)) (cmpf .ole s (fill S128 bcast_S_S128 0x43FFC000#32)))))
    (select
      (broadcastInDim S512x128 ![0, 1] bcast_S1x128_S512x128_0_1
        (cmpf .ogt (Host.absf (hatSum u)) (fill S1x128 bcast_S_S1x128 0x38FA0000#32)))
      (Host.divf u (broadcastInDim S512x128 ![0, 1] bcast_S1x128_S512x128_0_1
        (select (cmpf .une (hatSum u) (fill S1x128 bcast_S_S1x128 0x00000000#32)) (hatSum u) (fillI S1x128 bcast_S_S1x128 1#32))))
      (fillI S512x128 bcast_S_S512x128 0#32))
    (fillI S512x128 bcast_S_S512x128 0#32)

/-- The scribbles resized: contracted with the weights over rows, then over columns. -/
def resize (w v : FVec F S512x128 .f32) (a : FVec F S4x16x512x512 .f32) : FVec F S4x16x128x128 .f32 :=
  transpose S4x16x128x128 [1, 2, 0, 3]
    (Host.dotGeneral dot_S128x4x16x512_S512x128_S128x4x16x128_3_0_012_1_n_n (some .fp32)
      (Host.dotGeneral dot_S512x128_S4x16x512x512_S128x4x16x512_0_2_1_013_n_n (some .fp32) w a) v)
    transposes_S128x4x16x128_S4x16x128x128_1_2_0_3

/-- A map over the feature grid, flattened. -/
def flat (x : FVec F S4x16x128x128 .f32) : FVec F S4x16x16384 .f32 :=
  shapeCast S4x16x16384 x shapeCasts_S4x16x128x128_S4x16x16384

/-- The features, one row of channels for each place of the grid. -/
def places (f : FVec F S4x384x128x128 .f32) : FVec F S4x16384x384 .f32 :=
  transpose S4x16384x384 [0, 2, 1] (shapeCast S4x384x16384 f shapeCasts_S4x384x128x128_S4x384x16384)
    transposes_S4x384x16384_S4x16384x384_0_2_1

/-- The selected places: 1 where the map passes 1/2, 0 elsewhere. -/
def mask (x : FVec F S4x16x16384 .f32) : FVec F S4x16x16384 .f32 :=
  uitofp .f32 (cmpf .ogt x (fill S4x16x16384 bcast_S_S4x16x16384 0x3F000000#32))

/-- The sum over the places of each map. -/
def count (x : FVec F S4x16x16384 .f32) : FVec F S4x16 .f32 :=
  Host.reduceAdd x (constant S_ .f32 0x00000000#32) reducesTo_S4x16x16384_S4x16_d2 h_S_

/-- The first place of the largest value of each map. -/
def firstMax (x : FVec F S4x16x16384 .f32) : IVec S4x16 32 :=
  fun j => (Host.argReduce reducer_argmax_f32_i32 x (iotaInDim S4x16x16384 32 2) (constant S_ .f32 0xFF800000#32)
    (constantI S_ 32 0#32) reducesTo_S4x16x16384_S4x16_d2 h_S_ j).2

/-- The row that is 1 at one place and 0 elsewhere. -/
def onehot (a : IVec S4x16 32) : FVec F S4x16x16384 .f32 :=
  uitofp .f32 (cmpi .eq
    (broadcastInDim S4x16x16384 ![0, 1, 2] bcast_S4x16x1_S4x16x16384_0_1_2
      (broadcastInDim S4x16x1 ![0, 1] bcast_S4x16_S4x16x1_0_1 a))
    (broadcastInDim S4x16x16384 ![0, 1, 2] bcast_S1x1x16384_S4x16x16384_0_1_2 (iotaInDim S1x1x16384 32 2)))

/-- The mask, or the one-hot row where the mask is empty. -/
def chosen (n : FVec F S4x16 .f32) (o k : FVec F S4x16x16384 .f32) : FVec F S4x16x16384 .f32 :=
  select (broadcastInDim S4x16x16384 ![0, 1, 2] bcast_S4x16x1_S4x16x16384_0_1_2
      (broadcastInDim S4x16x1 ![0, 1] bcast_S4x16_S4x16x1_0_1 (cmpf .oeq n (fill S4x16 bcast_S_S4x16 0x00000000#32)))) o k

/-- The weighted mean of the features. -/
def mean (e : FVec F S4x16x16384 .f32) (p : FVec F S4x16384x384 .f32) : FVec F S4x16x384 .f32 :=
  Host.divf (Host.dotGeneral dot_S4x16x16384_S4x16384x384_S4x16x384_2_1_1_2_0_0 none e p)
    (broadcastInDim S4x16x384 ![0, 1, 2] bcast_S4x16x1_S4x16x384_0_1_2
      (broadcastInDim S4x16x1 ![0, 1] bcast_S4x16_S4x16x1_0_1 (count e)))

/-! ## Each stage, from any contents before it -/

variable (V : Valuation τ sig (Elt F))

/-- The sample points of the rows. -/
theorem hatRows_points : after hatRows V (main_call0_v8 : DevRef τ sig) = points := by after_results; rfl
/-- The hat values of the rows. -/
theorem hatRows_hat : after hatRows V (main_call0_v22 : DevRef τ sig) = hat points := by after_results; rfl
/-- The weights of the rows. -/
theorem weightRows_weights : after weightRows V (main_call0.call2.v3.ref : DevRef τ sig)
    = weights (V (main_call0_v8 : DevRef τ sig)) (V (main_call0_v22 : DevRef τ sig)) := by after_results; rfl
/-- The sample points of the columns. -/
theorem hatCols_points : after hatCols V (main_call0_v49 : DevRef τ sig) = points := by after_results; rfl
/-- The hat values of the columns. -/
theorem hatCols_hat : after hatCols V (main_call0_v63 : DevRef τ sig) = hat points := by after_results; rfl
/-- The weights of the columns. -/
theorem weightCols_weights : after weightCols V (main_call0.call5.v3.ref : DevRef τ sig)
    = weights (V (main_call0_v49 : DevRef τ sig)) (V (main_call0_v63 : DevRef τ sig)) := by after_results; rfl
/-- The last level of the features. -/
theorem level_features : after level V (main_v0 : DevRef τ sig)
    = (fun a : FVec F S1x4x384x128x128 .f32 => shapeCast S4x384x128x128 a shapeCasts_S1x4x384x128x128_S4x384x128x128)
      (V (main_arg0 : DevRef τ sig)) := by after_results; rfl
/-- The resized scribbles. -/
theorem resized_map : after resized V (main_v1 : DevRef τ sig)
    = resize (V (main_call0.call2.v3.ref : DevRef τ sig)) (V (main_call0.call5.v3.ref : DevRef τ sig)) (V (main_arg1 : DevRef τ sig)) := by
  after_results; rfl
/-- The features by place. -/
theorem masks_places : after masks V (main_v3 : DevRef τ sig) = places (V (main_v0 : DevRef τ sig)) := by after_results; rfl
/-- The flattened map. -/
theorem masks_flat : after masks V (main_v4 : DevRef τ sig) = flat (V (main_v1 : DevRef τ sig)) := by after_results; rfl
/-- The mask. -/
theorem masks_mask : after masks V (main_v7 : DevRef τ sig) = mask (flat (V (main_v1 : DevRef τ sig))) := by after_results; rfl
/-- The count of the mask. -/
theorem masks_count : after masks V (main_v8 : DevRef τ sig) = count (mask (flat (V (main_v1 : DevRef τ sig)))) := by
  after_results; rfl
/-- The one-hot row of the first largest value. -/
theorem onehots_onehot : after onehots V (main_v10 : DevRef τ sig) = onehot (firstMax (V (main_v4 : DevRef τ sig))) := by
  after_results
  simp only [TRef.ofBuf_toBuf]
  rfl
/-- The mean of the chosen features. -/
theorem means_mean : after means V (main_v19 : DevRef τ sig)
    = mean (chosen (V (main_v8 : DevRef τ sig)) (V (main_v10 : DevRef τ sig)) (V (main_v7 : DevRef τ sig))) (V (main_v3 : DevRef τ sig)) := by
  after_results; rfl

/-! ## What the stages between leave alone -/

/-- The one-hot stage leaves the features, the mask and the count. -/
theorem onehots_keeps (V : Valuation τ sig (Elt F)) :
    after onehots V (main_v3 : DevRef τ sig) = V (main_v3 : DevRef τ sig)
      ∧ after onehots V (main_v7 : DevRef τ sig) = V (main_v7 : DevRef τ sig)
      ∧ after onehots V (main_v8 : DevRef τ sig) = V (main_v8 : DevRef τ sig) :=
  ⟨by after_results, by after_results, by after_results⟩
/-- The resize leaves the features. -/
theorem resized_keeps : after resized V (main_v0 : DevRef τ sig) = V (main_v0 : DevRef τ sig) := by after_results
/-- The columns' weights leave the features, the scribbles and the rows' weights. -/
theorem weightCols_keeps :
    after weightCols V (main_v0 : DevRef τ sig) = V (main_v0 : DevRef τ sig)
      ∧ after weightCols V (main_arg1 : DevRef τ sig) = V (main_arg1 : DevRef τ sig)
      ∧ after weightCols V (main_call0.call2.v3.ref : DevRef τ sig) = V (main_call0.call2.v3.ref : DevRef τ sig) :=
  ⟨by after_results, by after_results, by after_results⟩
/-- The columns' hat leaves the same three. -/
theorem hatCols_keeps :
    after hatCols V (main_v0 : DevRef τ sig) = V (main_v0 : DevRef τ sig)
      ∧ after hatCols V (main_arg1 : DevRef τ sig) = V (main_arg1 : DevRef τ sig)
      ∧ after hatCols V (main_call0.call2.v3.ref : DevRef τ sig) = V (main_call0.call2.v3.ref : DevRef τ sig) :=
  ⟨by after_results, by after_results, by after_results⟩
/-- The rows' weights leave the features and the scribbles. -/
theorem weightRows_keeps :
    after weightRows V (main_v0 : DevRef τ sig) = V (main_v0 : DevRef τ sig)
      ∧ after weightRows V (main_arg1 : DevRef τ sig) = V (main_arg1 : DevRef τ sig) :=
  ⟨by after_results, by after_results⟩
/-- The rows' hat leaves the same two. -/
theorem hatRows_keeps :
    after hatRows V (main_v0 : DevRef τ sig) = V (main_v0 : DevRef τ sig)
      ∧ after hatRows V (main_arg1 : DevRef τ sig) = V (main_arg1 : DevRef τ sig) :=
  ⟨by after_results, by after_results⟩
/-- Taking the last level leaves the scribbles. -/
theorem level_keeps : after level V (main_arg1 : DevRef τ sig) = V (main_arg1 : DevRef τ sig) := by after_results

/-! ## The whole line -/

/-- The map of the resized scribbles, flattened. -/
def map (a : FVec F S4x16x512x512 .f32) : FVec F S4x16x16384 .f32 :=
  flat (resize (weights points (hat points)) (weights points (hat points)) a)

/-- The reference's result as a function of its two arguments. -/
def result (f : FVec F S1x4x384x128x128 .f32) (a : FVec F S4x16x512x512 .f32) : FVec F S4x16x384 .f32 :=
  mean (chosen (count (mask (map a))) (onehot (firstMax (map a))) (mask (map a)))
    (places (shapeCast S4x384x128x128 f shapeCasts_S1x4x384x128x128_S4x384x128x128))

/-- After the whole line the result's buffer holds `result` of the arguments. -/
theorem line_result : after line V (main_v19 : DevRef τ sig)
    = result (V (main_arg0 : DevRef τ sig)) (V (main_arg1 : DevRef τ sig)) := by
  unfold line
  simp only [after_append]
  rw [means_mean, onehots_onehot, (onehots_keeps _).1, (onehots_keeps _).2.1, (onehots_keeps _).2.2,
    masks_places, masks_flat, masks_mask, masks_count, resized_keeps, resized_map,
    (weightCols_keeps _).1, (weightCols_keeps _).2.1, (weightCols_keeps _).2.2, weightCols_weights,
    hatCols_points, hatCols_hat, (hatCols_keeps _).1, (hatCols_keeps _).2.1, (hatCols_keeps _).2.2,
    weightRows_weights, (weightRows_keeps _).1, (weightRows_keeps _).2,
    hatRows_points, hatRows_hat, (hatRows_keeps _).1, (hatRows_keeps _).2, level_features, level_keeps]
  rfl

/-- No operation of the line writes an argument. -/
theorem line_args : after line V (main_arg0 : DevRef τ sig) = V (main_arg0 : DevRef τ sig)
    ∧ after line V (main_arg1 : DevRef τ sig) = V (main_arg1 : DevRef τ sig) := by
  unfold line
  simp only [after_append]
  exact ⟨by after_results, by after_results⟩

/-- The run, read: the result's buffer holds that function of the arguments, which keep what they held. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v19).trans (line_result _), (h c main_arg0).trans (line_args _).1,
    (h c main_arg1).trans (line_args _).2⟩) (run_all m ρ)

/-- The frame: the reference ends, its arguments keep what they held, and it has no semaphore. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run_result m ρ)

end Cert.ReferenceIdeal.Run

end
-- ==== Proof.ReferenceIdeal.Weights.lean ====
/-
The interpolation weights over the extended reals: output place `j` takes half of each of the input rows `4j + 1` and `4j + 2`.
-/
module

public import proofs.«01_k».proof.Proof.Word
public import proofs.«01_k».proof.Proof.ReferenceIdeal.Value
public import Idealize.ShloMosaic.Lib.Pointwise
public import Idealize.ShloMosaic.Lib.IdealHost

@[expose] public section

set_option maxRecDepth 16384

noncomputable section

namespace Cert.ReferenceIdeal.Run

open Idealize.ShloMosaic Idealize.ShloMosaic.TcCoe Idealize.ShloMosaic.Tactic Idealize.ShloMosaic.StableHlo
open Cert.ReferenceIdeal Cert.ReferenceIdeal.Gen

/-- A small whole number's word as a float. -/
theorem float_word (n : ℕ) (h : n < 2 ^ 31) : FloatOps.sitofp (F := Ideal) .f32 (BitVec.ofNat 32 n) = ((n : ℝ) : EReal) := by
  have e : (BitVec.ofNat 32 n).toInt = n := by
    rw [BitVec.toInt_eq_toNat_cond, BitVec.toNat_ofNat, Nat.mod_eq_of_lt (by omega), if_pos (by omega)]
  show (((BitVec.ofNat 32 n).toInt : ℝ) : EReal) = _
  rw [e]; rfl

/-- The sampling point of an output place. -/
theorem points_at (j : Fin 128) : points (F := Ideal) (ix1 j) = ((4 * (j.val : ℝ) + 3 / 2 : ℝ) : EReal) := by
  pointwise [points, fill]
  rw [float_word _ (by omega), Word.half, Word.four, ← EReal.coe_add, ← EReal.coe_mul, ← EReal.coe_sub]
  congr 1
  ring

/-- The hat function of an output place at an input row, as a real number. -/
def peak (j k : ℕ) : ℝ := max 0 (1 - |4 * (j : ℝ) + 3 / 2 - k|)

/-- The absolute value of a real number is the real one. -/
theorem abs_coe (x : ℝ) : FloatOps.absf (F := Ideal) (φ := .f32) (x : EReal) = ((|x| : ℝ) : EReal) := by
  show max (x : EReal) (-(x : EReal)) = _
  rw [← EReal.coe_neg]
  exact (EReal.coe_strictMono.monotone.map_max (a := x) (b := -x)).symm

/-- The hat stage at an input row and an output place is the hat function there. -/
theorem hat_at (k : Fin 512) (j : Fin 128) : hat (F := Ideal) points (ix2 k j) = (peak j.val k.val : EReal) := by
  have hp := points_at j
  generalize points (F := Ideal) = s at hp ⊢
  pointwise [hat, fill]
  rw [hp, float_word _ (by omega), ← EReal.coe_sub, abs_coe, ← EReal.coe_one, Ideal.div_coe one_ne_zero, ← EReal.coe_mul, abs_coe,
    ← EReal.coe_sub, ← EReal.coe_zero]
  refine (EReal.coe_strictMono.monotone.map_max).symm.trans ?_
  rw [div_one, mul_one, abs_abs]
  rfl

/-- It is one half at the two rows around the sampling point and zero at every other. -/
theorem peak_eq (j k : ℕ) : peak j k = if k = 4 * j + 1 ∨ k = 4 * j + 2 then 1 / 2 else 0 := by
  unfold peak
  rcases lt_or_ge k (4 * j + 1) with h | h
  · have : (k : ℝ) + 1 ≤ 4 * j + 1 := by exact_mod_cast h
    rw [if_neg (by omega), max_eq_left]
    rw [abs_of_nonneg (by linarith)]; linarith
  rcases lt_or_ge (4 * j + 2) k with h' | h'
  · have : (4 * j + 2 : ℝ) + 1 ≤ k := by exact_mod_cast h'
    rw [if_neg (by omega), max_eq_left]
    rw [abs_of_nonpos (by linarith)]; linarith
  rcases (show k = 4 * j + 1 ∨ k = 4 * j + 2 by omega) with rfl | rfl
  · rw [if_pos (.inl rfl)]; push_cast
    rw [abs_of_nonneg (by linarith), max_eq_right (by linarith)]; ring
  · rw [if_pos (.inr rfl)]; push_cast
    rw [abs_of_nonpos (by linarith), max_eq_right (by linarith)]; ring

/-- A sum over the input rows of terms that vanish off those two. -/
theorem sum_two (j : Fin 128) (g : Fin 512 → EReal) (h : ∀ k : Fin 512, ¬(k.val = 4 * j.val + 1 ∨ k.val = 4 * j.val + 2) → g k = 0) :
    ∑ k, g k = g ⟨4 * j.val + 1, by omega⟩ + g ⟨4 * j.val + 2, by omega⟩ := by
  refine Finset.sum_eq_add _ _ (fun e => ?_) (fun k _ hk => h k fun hk' => ?_) (fun e => absurd (Finset.mem_univ _) e)
    (fun e => absurd (Finset.mem_univ _) e)
  · have := congrArg Fin.val e
    dsimp only at this
    omega
  · rcases hk' with e | e
    · exact hk.1 (Fin.ext e)
    · exact hk.2 (Fin.ext e)

/-- Each hat sums to one. -/
theorem hatSum_at (j : Fin 128) : hatSum (F := Ideal) (hat points) (ix2 0 j) = ((1 : ℝ) : EReal) := by
  have hh := hat_at
  generalize hat (F := Ideal) points = u at hh ⊢
  pointwise [hatSum]
  rw [sum_two j _ fun k hk => by rw [hh, peak_eq, if_neg hk]; rfl, hh, hh, peak_eq, peak_eq, if_pos (.inl rfl), if_pos (.inr rfl),
    ← EReal.coe_add]
  congr 1
  norm_num

/-- The weights. -/
theorem weights_at (k : Fin 512) (j : Fin 128) :
    weights (F := Ideal) points (hat points) (ix2 k j)
      = if k.val = 4 * j.val + 1 ∨ k.val = 4 * j.val + 2 then ((1 / 2 : ℝ) : EReal) else 0 := by
  have hn := hatSum_at j
  have hh := hat_at k j
  have hp := points_at j
  unfold weights
  generalize hatSum (F := Ideal) (hat points) = n at hn ⊢
  generalize hat (F := Ideal) points = u at hh ⊢
  generalize points (F := Ideal) = s at hp ⊢
  have hj : (j.val : ℝ) ≤ 127 := by exact_mod_cast (show j.val ≤ 127 by omega)
  have hj0 : (0 : ℝ) ≤ j.val := Nat.cast_nonneg _
  pointwise [fill, fillI]
  rw [hp, hn, hh, abs_coe, Word.minus_half, Word.last, Word.tiny,
    decide_eq_true (EReal.coe_le_coe_iff.2 (by linarith)), decide_eq_true (EReal.coe_le_coe_iff.2 (by linarith)),
    if_pos (EReal.coe_lt_coe_iff.2 (by rw [abs_one]; norm_num)), if_pos (by rw [← EReal.coe_zero, Ne, EReal.coe_eq_coe_iff]; norm_num),
    Ideal.div_coe one_ne_zero, ← EReal.coe_mul, div_one, mul_one, peak_eq]
  show (if _ then _ else _) = _
  rw [if_pos (by decide)]
  split <;> rfl

/-! ## The other stages at an index -/

/-- The resize contracts rows and columns with their weights. -/
theorem resize_at (w v : FVec Ideal S512x128 .f32) (a : FVec Ideal S4x16x512x512 .f32) (b : Fin 4) (q : Fin 16) (h j : Fin 128) :
    resize (F := Ideal) w v a (ix4 b q h j) = ∑ x : Fin 512, (∑ y : Fin 512, w (ix2 y h) * a (ix4 b q y x)) * v (ix2 x j) := by
  pointwise [resize]

/-- The flattened map at a place is the map at its row and column. -/
theorem flat_at (x : FVec Ideal S4x16x128x128 .f32) (b : Fin 4) (q : Fin 16) (p : Fin 16384) :
    flat (F := Ideal) x (ix3 b q p) = x (ix4 b q ⟨p.val / 128, by omega⟩ ⟨p.val % 128, by omega⟩) := by
  pointwise [flat]

/-- The features by place are those of the level at the place's row and column. -/
theorem places_at (f : FVec Ideal S1x4x384x128x128 .f32) (b : Fin 4) (c : Fin 384) (p : Fin 16384) :
    places (F := Ideal) (shapeCast S4x384x128x128 f shapeCasts_S1x4x384x128x128_S4x384x128x128) (ix3 b p c)
      = f (ix5 0 b c ⟨p.val / 128, by omega⟩ ⟨p.val % 128, by omega⟩) := by
  pointwise [places]

/-- The mask is one where the map is over a half and zero elsewhere. -/
theorem mask_at (x : FVec Ideal S4x16x16384 .f32) (b : Fin 4) (q : Fin 16) (p : Fin 16384) :
    mask (F := Ideal) x (ix3 b q p) = if ((1 / 2 : ℝ) : EReal) < x (ix3 b q p) then 1 else 0 := by
  pointwise [mask, fill]
  rw [Word.half]
  show ((((BitVec.ofBool (decide _)).toNat : ℕ) : ℝ) : EReal) = _
  by_cases h : ((1 / 2 : ℝ) : EReal) < x (ix3 b q p)
  · rw [decide_eq_true h, if_pos h]; simp
  · rw [decide_eq_false h, if_neg h]; simp

/-- The count adds the mask up over the places. -/
theorem count_at (x : FVec Ideal S4x16x16384 .f32) (b : Fin 4) (q : Fin 16) :
    count (F := Ideal) x (ix2 b q) = ∑ p : Fin 16384, x (ix3 b q p) := by
  pointwise [count]

/-- The one-hot row is one at its place and zero elsewhere. -/
theorem onehot_at (x : IVec S4x16 32) (b : Fin 4) (q : Fin 16) (p : Fin 16384) :
    onehot (F := Ideal) x (ix3 b q p) = if x (ix2 b q) = BitVec.ofNat 32 p.val then 1 else 0 := by
  pointwise [onehot]
  show ((((BitVec.ofBool (x (ix2 b q) == BitVec.ofNat 32 p.val)).toNat : ℕ) : ℝ) : EReal) = _
  by_cases h : x (ix2 b q) = BitVec.ofNat 32 p.val
  · rw [beq_iff_eq.2 h, if_pos h]; simp
  · rw [beq_eq_false_iff_ne.2 h, if_neg h]; simp

/-- Where the count is zero the one-hot row is taken, elsewhere the mask. -/
theorem chosen_at (n : FVec Ideal S4x16 .f32) (o k : FVec Ideal S4x16x16384 .f32) (b : Fin 4) (q : Fin 16) (p : Fin 16384) :
    chosen (F := Ideal) n o k (ix3 b q p) = if n (ix2 b q) = 0 then o (ix3 b q p) else k (ix3 b q p) := by
  pointwise [chosen, fill]

/-- The mean divides the weighted features, added up, by the weights' sum. -/
theorem mean_at (e : FVec Ideal S4x16x16384 .f32) (p : FVec Ideal S4x16384x384 .f32) (b : Fin 4) (q : Fin 16) (c : Fin 384) :
    mean (F := Ideal) e p (ix3 b q c) = Ideal.div (∑ x : Fin 16384, e (ix3 b q x) * p (ix3 b x c)) (count e (ix2 b q)) := by
  unfold mean
  generalize count (F := Ideal) e = n
  pointwise []

end Cert.ReferenceIdeal.Run

end
-- ==== Proof.ReferenceIdeal.Plain.lean ====
/-
The reference's result over the extended reals, when no scribble is negative: the resized map is a quarter of the four-pixel sum, so
its mask and its largest value are those of the sums.
-/
module

public import proofs.«01_k».proof.Proof.Spec
public import proofs.«01_k».proof.Proof.ReferenceIdeal.Weights

@[expose] public section

set_option maxRecDepth 16384

noncomputable section

namespace Cert.ReferenceIdeal.Run

open Idealize.ShloMosaic Idealize.ShloMosaic.TcCoe Idealize.ShloMosaic.Tactic Idealize.ShloMosaic.StableHlo
open Cert.ReferenceIdeal Cert.ReferenceIdeal.Gen

/-! ## A quarter of an extended real -/

/-- Multiplying by a quarter keeps the order. -/
theorem quarter_lt (x y : EReal) : ((1 / 4 : ℝ) : EReal) * x < ((1 / 4 : ℝ) : EReal) * y ↔ x < y := by
  have h : (0 : ℝ) < 1 / 4 := by norm_num
  induction x <;> induction y <;>
    simp only [EReal.coe_mul_top_of_pos h, EReal.coe_mul_bot_of_pos h, ← EReal.coe_mul, EReal.coe_lt_coe_iff, lt_self_iff_false,
      bot_lt_top, EReal.coe_lt_top, EReal.bot_lt_coe, not_top_lt, not_lt_bot]
  rw [mul_lt_mul_iff_right₀ h]

/-- A half of each row, then of each column, is a quarter of the four. -/
theorem quarter_sum {x y z w : EReal} (hx : 0 ≤ x) (hy : 0 ≤ y) (hz : 0 ≤ z) (hw : 0 ≤ w) :
    (((1 / 2 : ℝ) : EReal) * x + ((1 / 2 : ℝ) : EReal) * y) * ((1 / 2 : ℝ) : EReal)
        + (((1 / 2 : ℝ) : EReal) * z + ((1 / 2 : ℝ) : EReal) * w) * ((1 / 2 : ℝ) : EReal)
      = ((1 / 4 : ℝ) : EReal) * ((x + y) + (z + w)) := by
  have e : ((1 / 4 : ℝ) : EReal) = ((1 / 2 : ℝ) : EReal) * ((1 / 2 : ℝ) : EReal) := by
    rw [← EReal.coe_mul]; congr 1; norm_num
  rw [← EReal.left_distrib_of_nonneg hx hy, ← EReal.left_distrib_of_nonneg hz hw, e,
    EReal.left_distrib_of_nonneg (add_nonneg hx hy) (add_nonneg hz hw), mul_right_comm, mul_right_comm _ (z + w)]

/-! ## The map, the mask and the count -/

variable {a : FVec Ideal S4x16x512x512 .f32}

/-- The resized map at a place is a quarter of the four-pixel sum there. -/
theorem map_at (h0 : ∀ y, 0 ≤ a y) (b : Fin 4) (q : Fin 16) (p : Fin 16384) :
    map (F := Ideal) a (ix3 b q p) = ((1 / 4 : ℝ) : EReal) * Spec.sums a b q p.val := by
  have inner : ∀ (h : Fin 128) (x : Fin 512), ∑ y : Fin 512, weights (F := Ideal) points (hat points) (ix2 y h) * a (ix4 b q y x)
      = ((1 / 2 : ℝ) : EReal) * a (ix4 b q ⟨4 * h.val + 1, by omega⟩ x) + ((1 / 2 : ℝ) : EReal) * a (ix4 b q ⟨4 * h.val + 2, by omega⟩ x) := by
    intro h x
    rw [sum_two h _ fun k hk => by rw [weights_at, if_neg hk, zero_mul], weights_at, weights_at, if_pos (.inl rfl), if_pos (.inr rfl)]
  unfold map
  rw [flat_at, resize_at, sum_two ⟨p.val % 128, by omega⟩ _ fun k hk => by rw [weights_at, if_neg hk, mul_zero], inner, inner,
    weights_at, weights_at, if_pos (.inl rfl), if_pos (.inr rfl), quarter_sum (h0 _) (h0 _) (h0 _) (h0 _)]
  unfold Spec.sums
  have e1 : ∀ h h', (⟨4 * (p.val / 128) + 1, h⟩ : Fin 512) = ⟨(4 * (p.val / 128) + 1) % 512, h'⟩ :=
    fun h h' => Fin.ext (by dsimp only; omega)
  have e2 : ∀ h h', (⟨4 * (p.val / 128) + 2, h⟩ : Fin 512) = ⟨(4 * (p.val / 128) + 2) % 512, h'⟩ :=
    fun h h' => Fin.ext (by dsimp only; omega)
  dsimp only
  rw [e1 _ (by omega), e2 _ (by omega)]

/-- A place is masked exactly when its four-pixel sum is over two. -/
theorem mask_map (h0 : ∀ y, 0 ≤ a y) (b : Fin 4) (q : Fin 16) (p : Fin 16384) :
    mask (F := Ideal) (map a) (ix3 b q p) = Spec.sel (Spec.sums a b q p.val) := by
  have e : ((1 / 2 : ℝ) : EReal) = ((1 / 4 : ℝ) : EReal) * 2 := by
    rw [show (2 : EReal) = ((2 : ℝ) : EReal) from rfl, ← EReal.coe_mul]; congr 1; norm_num
  rw [mask_at, map_at h0, e]
  unfold Spec.sel
  simp only [quarter_lt]

/-- The count of the mask is the count of the selected sums. -/
theorem count_map (h0 : ∀ y, 0 ≤ a y) (b : Fin 4) (q : Fin 16) :
    count (F := Ideal) (mask (map a)) (ix2 b q) = Spec.count (Spec.sums a b q) 16384 := by
  rw [count_at]
  unfold Spec.count
  rw [Finset.sum_range]
  exact Finset.sum_congr rfl fun p _ => mask_map h0 b q p

/-! ## The first place of the largest value -/

/-- One pair of a value and a place is at least as good as another: its value is larger, or the same at no later a place. -/
def Better (u v : EReal × BitVec 32) : Prop := v.1 < u.1 ∨ u.1 = v.1 ∧ u.2.toInt ≤ v.2.toInt

/-- A pair is as good as itself. -/
theorem Better.refl (u : EReal × BitVec 32) : Better u u := .inr ⟨rfl, le_rfl⟩

/-- Being as good passes on along a chain of pairs. -/
theorem Better.trans {u v w : EReal × BitVec 32} (h : Better u v) (h' : Better v w) : Better u w := by
  rcases h with h | ⟨h, hi⟩ <;> rcases h' with h' | ⟨h', hi'⟩
  · exact .inl (h'.trans h)
  · exact .inl (h' ▸ h)
  · exact .inl (h ▸ h')
  · exact .inr ⟨h.trans h', hi.trans hi'⟩

/-- The reducer keeps the better of its two pairs. -/
theorem reducer_better (u v : EReal × BitVec 32) :
    (reducer_argmax_f32_i32 (F := Ideal) u v = u ∨ reducer_argmax_f32_i32 (F := Ideal) u v = v)
      ∧ Better (reducer_argmax_f32_i32 (F := Ideal) u v) u ∧ Better (reducer_argmax_f32_i32 (F := Ideal) u v) v := by
  obtain ⟨x, i⟩ := u
  obtain ⟨y, j⟩ := v
  have hs : IntOp.cmpi .slt i j = BitVec.ofBool (decide (i.toInt < j.toInt)) := by
    unfold IntOp.cmpi
    rw [BitVec.slt]
  have e : reducer_argmax_f32_i32 (F := Ideal) (x, i) (y, j)
      = if y < x then (x, i) else if x = y ∧ i.toInt < j.toInt then (y, i) else (y, j) := by
    unfold reducer_argmax_f32_i32
    dsimp only
    rw [hs]
    rcases lt_trichotomy x y with h | h | h
    · simp [Ideal.cmpf_def, Ideal.cmp, Scalar.select, IntOp.ori, IntOp.andi, h.not_gt, h.ne]
    · subst h
      by_cases hi : i.toInt < j.toInt <;> simp [Ideal.cmpf_def, Ideal.cmp, Scalar.select, IntOp.ori, IntOp.andi, hi]
    · by_cases hi : i.toInt < j.toInt <;>
        simp [Ideal.cmpf_def, Ideal.cmp, Scalar.select, IntOp.ori, IntOp.andi, h, h.ne', hi]
  rw [e]
  rcases lt_trichotomy x y with h | h | h
  · rw [if_neg h.not_gt, if_neg fun k => h.ne k.1]
    exact ⟨.inr rfl, .inl h, .refl _⟩
  · subst h
    rw [if_neg (lt_irrefl _)]
    split
    · rename_i k
      exact ⟨.inl rfl, .refl _, .inr ⟨rfl, k.2.le⟩⟩
    · rename_i k
      exact ⟨.inr rfl, .inr ⟨rfl, not_lt.1 fun k' => k ⟨rfl, k'⟩⟩, .refl _⟩
  · rw [if_pos h]
    exact ⟨.inl rfl, .refl _, .inl h⟩

/-- A left fold of it ends at one of the pairs, the best of them. -/
theorem fold_better (l : List (EReal × BitVec 32)) : ∀ u : EReal × BitVec 32,
    (l.foldl (reducer_argmax_f32_i32 (F := Ideal)) u = u ∨ l.foldl (reducer_argmax_f32_i32 (F := Ideal)) u ∈ l)
      ∧ Better (l.foldl (reducer_argmax_f32_i32 (F := Ideal)) u) u
      ∧ ∀ v ∈ l, Better (l.foldl (reducer_argmax_f32_i32 (F := Ideal)) u) v := by
  induction l with
  | nil => intro u; exact ⟨.inl rfl, .refl u, fun v hv => absurd hv (List.not_mem_nil)⟩
  | cons w l ih =>
    intro u
    obtain ⟨hm, hu, hw⟩ := reducer_better u w
    obtain ⟨im, iu, il⟩ := ih (reducer_argmax_f32_i32 (F := Ideal) u w)
    rw [List.foldl_cons]
    refine ⟨?_, iu.trans hu, fun v hv => ?_⟩
    · rcases im with im | im
      · rw [im]
        rcases hm with hm | hm
        · exact .inl hm
        · rw [hm]; exact .inr (List.mem_cons_self)
      · exact .inr (List.mem_cons_of_mem _ im)
    · rcases List.mem_cons.1 hv with rfl | hv
      · exact iu.trans hw
      · exact il v hv

/-- The pairs it runs over: each place's value with its word. -/
theorem mem_fiber (x : FVec Ideal S4x16x16384 .f32) (b : Fin 4) (q : Fin 16) (u : EReal × BitVec 32) :
    u ∈ Host.argReduceFiber x (iotaInDim S4x16x16384 32 2) reducesTo_S4x16x16384_S4x16_d2 (ix2 b q)
      ↔ ∃ p : Fin 16384, u = (x (ix3 b q p), BitVec.ofNat 32 p.val) := by
  have hd : ∀ (b' : Fin 4) (q' : Fin 16) (p : Fin 16384),
      Shape.ReducesTo.drop reducesTo_S4x16x16384_S4x16_d2 (ix3 b' q' p) = ix2 b' q' := by
    intro b' q' p
    funext k
    fin_cases k <;> rfl
  unfold Host.argReduceFiber
  simp only [List.mem_map, List.mem_filter, List.mem_finRange, true_and, decide_eq_true_eq]
  constructor
  · rintro ⟨n, hn, rfl⟩
    generalize S4x16x16384.rowMajor.symm n = i at hn ⊢
    idx_vars i
    rw [hd] at hn
    have h1 : i0 = b := congrFun hn 0
    have h2 : i1 = q := congrFun hn 1
    subst h1 h2
    exact ⟨i2, rfl⟩
  · rintro ⟨p, rfl⟩
    refine ⟨S4x16x16384.rowMajor (ix3 b q p), ?_, ?_⟩
    · rw [Equiv.symm_apply_apply]; exact hd b q p
    · rw [Equiv.symm_apply_apply]; rfl

/-- The arg-max finds the first place of the largest value. -/
theorem firstMax_at (x : FVec Ideal S4x16x16384 .f32) (b : Fin 4) (q : Fin 16) (p : Fin 16384) (hx : ∀ r, ⊥ < x (ix3 b q r))
    (hp : ∀ r, x (ix3 b q r) ≤ x (ix3 b q p)) (hf : ∀ r < p, x (ix3 b q r) < x (ix3 b q p)) :
    firstMax (F := Ideal) x (ix2 b q) = BitVec.ofNat 32 p.val := by
  unfold firstMax
  rw [Ideal.argReduce_eq_reduce2, Host.reduce2_eq_foldl_fiber]
  obtain ⟨hm, -, hl⟩ := fold_better
    (Host.argReduceFiber x (iotaInDim S4x16x16384 32 2) reducesTo_S4x16x16384_S4x16_d2 (ix2 b q))
    (constant (F := Ideal) S_ .f32 0xFF800000#32 (Shape.Idx.first h_S_), constantI S_ 32 0#32 (Shape.Idx.first h_S_))
  have hb := hl _ ((mem_fiber x b q _).2 ⟨p, rfl⟩)
  rcases hm with hm | hm
  · exfalso
    rw [hm] at hb
    have hbot : constant (F := Ideal) S_ .f32 0xFF800000#32 (Shape.Idx.first h_S_) = (⊥ : EReal) := Word.bottom
    rw [hbot] at hb
    rcases hb with hb | ⟨hb, -⟩
    · exact not_lt_bot hb
    · exact absurd hb (ne_of_lt (hx p))
  · obtain ⟨r, hr⟩ := (mem_fiber x b q _).1 hm
    rw [hr] at hb
    refine (congrArg Prod.snd hr).trans ?_
    rcases hb with hb | ⟨he, hi⟩
    · exact absurd hb (not_lt.2 (hp r))
    · dsimp only at he hi ⊢
      have e : ∀ n : Fin 16384, (BitVec.ofNat 32 n.val).toInt = n.val := fun n => by
        rw [BitVec.toInt_eq_toNat_cond, BitVec.toNat_ofNat, Nat.mod_eq_of_lt (by omega), if_pos (by omega)]
      rw [e, e] at hi
      rcases lt_or_ge r p with h | h
      · exact absurd he (ne_of_lt (hf r h))
      · rw [show r = p from le_antisymm (by rw [Fin.le_def]; omega) h]

/-! ## The whole result -/

/-- The reference computes the plain function of the arguments. -/
theorem result_eq (f : FVec Ideal S1x4x384x128x128 .f32) (h0 : ∀ y, 0 ≤ a y) : result (F := Ideal) f a = Spec.out f a := by
  funext y
  idx_vars y
  show _ = Spec.result (Spec.sums a y0 y1) (Spec.feats f y0 y2)
  have hX : ∀ p : Fin 16384, places (F := Ideal) (shapeCast S4x384x128x128 f shapeCasts_S1x4x384x128x128_S4x384x128x128) (ix3 y0 p y2)
      = Spec.feats f y0 y2 p.val := by
    intro p
    rw [places_at]
    unfold Spec.feats
    congr 2
    ext; dsimp only; omega
  unfold result
  rw [mean_at, count_at]
  simp only [chosen_at, count_map h0, hX]
  unfold Spec.result
  rcases eq_or_lt_of_le (Spec.count_nonneg (Spec.sums a y0 y1) 16384) with hc | hc
  · have hp := Spec.place_first (Spec.sums a y0 y1)
    have hq : firstMax (F := Ideal) (map a) (ix2 y0 y1) = BitVec.ofNat 32 (Spec.place (Spec.sums a y0 y1)) := by
      refine firstMax_at (map a) y0 y1 ⟨_, hp.lt⟩ (fun r => ?_) (fun r => ?_) (fun r hr => ?_)
      · rw [map_at h0]
        refine lt_of_lt_of_le EReal.bot_lt_zero (mul_nonneg ?_ (Spec.sums_nonneg h0 _ _ _))
        exact EReal.coe_nonneg.2 (by norm_num)
      · rw [map_at h0, map_at h0, ← not_lt, quarter_lt, not_lt]
        exact hp.le _ r.isLt
      · rw [map_at h0, map_at h0, quarter_lt]
        exact hp.first _ hr
    have ho : ∀ p : Fin 16384, onehot (F := Ideal) (firstMax (map a)) (ix3 y0 y1 p)
        = if p = ⟨_, hp.lt⟩ then 1 else 0 := by
      intro p
      rw [onehot_at, hq]
      have hlt := hp.lt
      refine if_congr ⟨fun e => ?_, fun e => by rw [e]⟩ rfl rfl
      have e := congrArg BitVec.toNat e
      rw [BitVec.toNat_ofNat, BitVec.toNat_ofNat, Nat.mod_eq_of_lt (by omega), Nat.mod_eq_of_lt (by omega)] at e
      exact Fin.ext e.symm
    rw [if_neg (by rw [← hc]; exact lt_irrefl _)]
    simp only [if_pos hc.symm, ho, ite_mul, one_mul, zero_mul, Finset.sum_ite_eq', Finset.mem_univ, if_true]
    rw [← EReal.coe_one, Ideal.div_coe one_ne_zero, div_one, EReal.coe_one, mul_one]
  · rw [if_pos hc]
    simp only [if_neg hc.ne', mask_map h0]
    unfold Spec.total Spec.count
    rw [Finset.sum_range, Finset.sum_range]

end Cert.ReferenceIdeal.Run

end
-- ==== Proof.Nonneg.lean ====
/-
What the precondition says: no scribble is negative.
-/
module

public import proofs.«01_k».proof.Pre_nonneg
public import proofs.«01_k».proof.Proof.Gen.Pre_nonneg
public import Idealize.ShloMosaic.Lib.ReduceAll
public import Idealize.ShloMosaic.Lib.IdealHost

@[expose] public section

noncomputable section

namespace Cert.Nonneg

open Idealize.ShloMosaic Idealize.ShloMosaic.StableHlo

/-- When the conjunction of the comparisons is one, each entry is at least zero. -/
theorem nonneg [Cert.Pre_nonneg.Facts] (f : FVec Ideal Cert.Pre_nonneg.S1x4x384x128x128 .f32)
    (a : FVec Ideal Cert.Pre_nonneg.S4x16x512x512 .f32) (h : Cert.Pre_nonneg.fn (F := Ideal) f a = fun _ => 1#1)
    (y : Cert.Pre_nonneg.S4x16x512x512.Idx) : (0 : EReal) ≤ a y := by
  have : Subsingleton Cert.Pre_nonneg.S_.Idx := ⟨fun p q => funext fun k => k.elim0⟩
  have e : cmpf (F := Ideal) .oge a (broadcastInDim Cert.Pre_nonneg.S4x16x512x512 ![] Cert.Pre_nonneg.Facts.bcast_S_S4x16x512x512
      (constant Cert.Pre_nonneg.S_ .f32 0x00000000#32)) y = 1#1 :=
    Host.reduce_andi_all _ _ _ _ _ (congrFun h fun k => k.elim0) y
  have z : broadcastInDim Cert.Pre_nonneg.S4x16x512x512 ![] Cert.Pre_nonneg.Facts.bcast_S_S4x16x512x512
      (constant (F := Ideal) Cert.Pre_nonneg.S_ .f32 0x00000000#32) y = (0 : EReal) := Ideal.ofBits_zero_f32
  by_contra hn
  simp [cmpf, Ideal.cmpf_def, Ideal.cmp, z, hn] at e

end Cert.Nonneg

end
-- ==== Proof.lean ====
/-
The proof of `Cert.Claim`: the frames of the kernel, of the kernel over the extended reals and of the reference, and
the equality of what the last two compute. Every part is proved in a module of its own under Proof/; here they are
put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_nonneg
public import proofs.«01_k».proof.Proof.Kernel.Run
public import proofs.«01_k».proof.Proof.KernelIdeal.Out
public import proofs.«01_k».proof.Proof.KernelIdeal.Value
public import proofs.«01_k».proof.Proof.ReferenceIdeal.Value
public import proofs.«01_k».proof.Proof.ReferenceIdeal.Plain
public import proofs.«01_k».proof.Proof.Nonneg
public import Idealize.ShloMosaic.Adequacy
public import Idealize.ShloMosaic.Init

@[expose] public section

noncomputable section

namespace Cert.Proof

open Idealize.ShloMosaic Idealize.SL.Sem Cert.Kernel

/-- Where no scribble is negative, the kernel and the reference, started on the same arguments, both leave `Spec.out` of them. -/
theorem algebraic : Cert.algebraic_KernelIdeal_ReferenceIdeal_pre_nonneg (hKernelIdeal := Cert.KernelIdeal.Gen.facts)
    (hReferenceIdeal := Cert.ReferenceIdeal.Gen.facts) (hPre_nonneg := Cert.Pre_nonneg.Gen.facts) := by
  intro m g m' g' hpre hagree
  have h0 : ∀ (c : Dev Cert.KernelIdeal.nD) y,
      (0 : EReal) ≤ m ((c.tc : Thread Cert.KernelIdeal.nD Cert.KernelIdeal.τ).loc Cert.KernelIdeal.main_arg1) y :=
    fun c y => @Cert.Nonneg.nonneg Cert.Pre_nonneg.Gen.facts _ _ (hpre c) y
  refine ⟨_, Cert.KernelIdeal.Run.run_value m g h0, ?_⟩
  refine (θ_run _ _ _).mono (fun r h c => ⟨(h c).1.trans ?_, (h c).2⟩) (Cert.ReferenceIdeal.Run.run_result m' g')
  rw [(hagree c).1, (hagree c).2]
  exact Cert.ReferenceIdeal.Run.result_eq _ (h0 c)

theorem claim : Cert.Claim := ⟨Cert.Kernel.Gen.facts, Cert.KernelIdeal.Gen.facts, Cert.ReferenceIdeal.Gen.facts, Cert.Pre_nonneg.Gen.facts, by
  exact ⟨fun m g _ => Cert.Kernel.Run.frame m g, fun m g _ => Cert.KernelIdeal.Run.frame m g,
    fun m g _ => Cert.KernelIdeal.Run.frame m g, fun m g _ => Cert.ReferenceIdeal.Run.frame m g,
    fun m g _ => Cert.ReferenceIdeal.Run.frame m g, trivial, algebraic⟩⟩

end Cert.Proof

end
